-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojOdd (m : (ℓ : Loc Cert.InprojOdd.nD Cert.InprojOdd.τ Cert.InprojOdd.sig) → Buf (Elt Bits) ℓ) : Prop :=
  True

def Pre_InprojOddIdeal (m : (ℓ : Loc Cert.InprojOddIdeal.nD Cert.InprojOddIdeal.τ Cert.InprojOddIdeal.sig) → Buf (Elt Ideal) ℓ) : Prop :=
  True

def Pre_InprojOddRefIdeal (m : (ℓ : Loc Cert.InprojOddRefIdeal.nD Cert.InprojOddRefIdeal.τ Cert.InprojOddRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Chunk (m : (ℓ : Loc Cert.Chunk.nD Cert.Chunk.τ Cert.Chunk.sig) → Buf (Elt Bits) ℓ) : Prop :=
  True

def Pre_ChunkIdeal (m : (ℓ : Loc Cert.ChunkIdeal.nD Cert.ChunkIdeal.τ Cert.ChunkIdeal.sig) → Buf (Elt Ideal) ℓ) : Prop :=
  True

def Pre_ChunkIdeal_finite_scores [hPre_finite_scores : Cert.Pre_finite_scores.Facts] (m : (ℓ : Loc Cert.ChunkIdeal.nD Cert.ChunkIdeal.τ Cert.ChunkIdeal.sig) → Buf (Elt Ideal) ℓ) : Prop :=
  ∀ c : Dev Cert.ChunkIdeal.nD,
    (Cert.Pre_finite_scores.fn (F := Ideal) (m ((c.tc : Thread Cert.ChunkIdeal.nD Cert.ChunkIdeal.τ).loc Cert.ChunkIdeal.main_arg0)) (m ((c.tc : Thread Cert.ChunkIdeal.nD Cert.ChunkIdeal.τ).loc Cert.ChunkIdeal.main_arg1))) = (fun _ => 1#1)

def Pre_ChunkRefIdeal (m : (ℓ : Loc Cert.ChunkRefIdeal.nD Cert.ChunkRefIdeal.τ Cert.ChunkRefIdeal.sig) → Buf (Elt Ideal) ℓ) : Prop :=
  True

def Pre_ChunkRefIdeal_finite_scores [hPre_finite_scores : Cert.Pre_finite_scores.Facts] (m : (ℓ : Loc Cert.ChunkRefIdeal.nD Cert.ChunkRefIdeal.τ Cert.ChunkRefIdeal.sig) → Buf (Elt Ideal) ℓ) : Prop :=
  ∀ c : Dev Cert.ChunkRefIdeal.nD,
    (Cert.Pre_finite_scores.fn (F := Ideal) (m ((c.tc : Thread Cert.ChunkRefIdeal.nD Cert.ChunkRefIdeal.τ).loc Cert.ChunkRefIdeal.main_arg0)) (m ((c.tc : Thread Cert.ChunkRefIdeal.nD Cert.ChunkRefIdeal.τ).loc Cert.ChunkRefIdeal.main_arg1))) = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_InprojOdd [hInprojOdd : Cert.InprojOdd.Facts] : Prop :=
  ∀ (m : (ℓ : Loc Cert.InprojOdd.nD Cert.InprojOdd.τ Cert.InprojOdd.sig) → Buf (Elt Bits) ℓ) (g : Dev Cert.InprojOdd.nD → PrngReg), Pre_InprojOdd m →
    θ_run (Cert.InprojOdd.defs (F := Bits)) (onTc (τ := Cert.InprojOdd.τ) (Cert.InprojOdd.main (F := Bits))) ⟨m, fun _ => 0, g⟩ (fun r => (∀ c : Dev Cert.InprojOdd.nD,
      r.2.mem ((c.tc : Thread Cert.InprojOdd.nD Cert.InprojOdd.τ).loc Cert.InprojOdd.main_arg0) = m ((c.tc : Thread Cert.InprojOdd.nD Cert.InprojOdd.τ).loc Cert.InprojOdd.main_arg0)
      ∧ r.2.mem ((c.tc : Thread Cert.InprojOdd.nD Cert.InprojOdd.τ).loc Cert.InprojOdd.main_arg1) = m ((c.tc : Thread Cert.InprojOdd.nD Cert.InprojOdd.τ).loc Cert.InprojOdd.main_arg1))
      ∧ r.2.sem = fun _ => 0)

def quiescent_InprojOddIdeal [hInprojOddIdeal : Cert.InprojOddIdeal.Facts] : Prop :=
  ∀ (m : (ℓ : Loc Cert.InprojOddIdeal.nD Cert.InprojOddIdeal.τ Cert.InprojOddIdeal.sig) → Buf (Elt Ideal) ℓ) (g : Dev Cert.InprojOddIdeal.nD → PrngReg), Pre_InprojOddIdeal m →
    θ_run (Cert.InprojOddIdeal.defs (F := Ideal)) (onTc (τ := Cert.InprojOddIdeal.τ) (Cert.InprojOddIdeal.main (F := Ideal))) ⟨m, fun _ => 0, g⟩ (fun r => (∀ c : Dev Cert.InprojOddIdeal.nD,
      r.2.mem ((c.tc : Thread Cert.InprojOddIdeal.nD Cert.InprojOddIdeal.τ).loc Cert.InprojOddIdeal.main_arg0) = m ((c.tc : Thread Cert.InprojOddIdeal.nD Cert.InprojOddIdeal.τ).loc Cert.InprojOddIdeal.main_arg0)
      ∧ r.2.mem ((c.tc : Thread Cert.InprojOddIdeal.nD Cert.InprojOddIdeal.τ).loc Cert.InprojOddIdeal.main_arg1) = m ((c.tc : Thread Cert.InprojOddIdeal.nD Cert.InprojOddIdeal.τ).loc Cert.InprojOddIdeal.main_arg1))
      ∧ r.2.sem = fun _ => 0)

def quiescent_InprojOddRefIdeal [hInprojOddRefIdeal : Cert.InprojOddRefIdeal.Facts] : Prop :=
  ∀ (m : (ℓ : Loc Cert.InprojOddRefIdeal.nD Cert.InprojOddRefIdeal.τ Cert.InprojOddRefIdeal.sig) → Buf (Elt Ideal) ℓ) (g : Dev Cert.InprojOddRefIdeal.nD → PrngReg), Pre_InprojOddRefIdeal m →
    θ_run (Cert.InprojOddRefIdeal.defs (F := Ideal)) (onTc (τ := Cert.InprojOddRefIdeal.τ) (Cert.InprojOddRefIdeal.main (F := Ideal))) ⟨m, fun _ => 0, g⟩ (fun r => (∀ c : Dev Cert.InprojOddRefIdeal.nD,
      r.2.mem ((c.tc : Thread Cert.InprojOddRefIdeal.nD Cert.InprojOddRefIdeal.τ).loc Cert.InprojOddRefIdeal.main_arg0) = m ((c.tc : Thread Cert.InprojOddRefIdeal.nD Cert.InprojOddRefIdeal.τ).loc Cert.InprojOddRefIdeal.main_arg0)
      ∧ r.2.mem ((c.tc : Thread Cert.InprojOddRefIdeal.nD Cert.InprojOddRefIdeal.τ).loc Cert.InprojOddRefIdeal.main_arg1) = m ((c.tc : Thread Cert.InprojOddRefIdeal.nD Cert.InprojOddRefIdeal.τ).loc Cert.InprojOddRefIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5))
      ∧ r.2.sem = fun _ => 0)

def quiescent_Chunk [hChunk : Cert.Chunk.Facts] : Prop :=
  ∀ (m : (ℓ : Loc Cert.Chunk.nD Cert.Chunk.τ Cert.Chunk.sig) → Buf (Elt Bits) ℓ) (g : Dev Cert.Chunk.nD → PrngReg), Pre_Chunk m →
    θ_run (Cert.Chunk.defs (F := Bits)) (onTc (τ := Cert.Chunk.τ) (Cert.Chunk.main (F := Bits))) ⟨m, fun _ => 0, g⟩ (fun r => (∀ c : Dev Cert.Chunk.nD,
      r.2.mem ((c.tc : Thread Cert.Chunk.nD Cert.Chunk.τ).loc Cert.Chunk.main_arg0) = m ((c.tc : Thread Cert.Chunk.nD Cert.Chunk.τ).loc Cert.Chunk.main_arg0)
      ∧ r.2.mem ((c.tc : Thread Cert.Chunk.nD Cert.Chunk.τ).loc Cert.Chunk.main_arg1) = m ((c.tc : Thread Cert.Chunk.nD Cert.Chunk.τ).loc Cert.Chunk.main_arg1))
      ∧ r.2.sem = fun _ => 0)

def quiescent_ChunkIdeal [hChunkIdeal : Cert.ChunkIdeal.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1))
      ∧ r.2.sem = fun _ => 0)

def quiescent_ChunkIdeal_pre_finite_scores [hChunkIdeal : Cert.ChunkIdeal.Facts] [hPre_finite_scores : Cert.Pre_finite_scores.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal_finite_scores m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1))
      ∧ r.2.sem = fun _ => 0)

def quiescent_ChunkRefIdeal [hChunkRefIdeal : Cert.ChunkRefIdeal.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1))
      ∧ r.2.sem = fun _ => 0)

def quiescent_ChunkRefIdeal_pre_finite_scores [hChunkRefIdeal : Cert.ChunkRefIdeal.Facts] [hPre_finite_scores : Cert.Pre_finite_scores.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal_finite_scores m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v0) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_InprojOdd_InprojOddIdeal : Prop :=
  True

def algebraic_InprojOddIdeal_InprojOddRefIdeal [hInprojOddIdeal : Cert.InprojOddIdeal.Facts] [hInprojOddRefIdeal : Cert.InprojOddRefIdeal.Facts] : Prop :=
  ∀ (m : (ℓ : Loc Cert.InprojOddIdeal.nD Cert.InprojOddIdeal.τ Cert.InprojOddIdeal.sig) → Buf (Elt Ideal) ℓ) (g : Dev Cert.InprojOddIdeal.nD → PrngReg)
    (m' : (ℓ : Loc Cert.InprojOddRefIdeal.nD Cert.InprojOddRefIdeal.τ Cert.InprojOddRefIdeal.sig) → Buf (Elt Ideal) ℓ) (g' : Dev Cert.InprojOddRefIdeal.nD → PrngReg), Pre_InprojOddIdeal m →
    (∀ c : Dev Cert.InprojOddIdeal.nD,
      m' ((c.tc : Thread Cert.InprojOddRefIdeal.nD Cert.InprojOddRefIdeal.τ).loc Cert.InprojOddRefIdeal.main_arg0) = m ((c.tc : Thread Cert.InprojOddIdeal.nD Cert.InprojOddIdeal.τ).loc Cert.InprojOddIdeal.main_arg0)
      ∧ m' ((c.tc : Thread Cert.InprojOddRefIdeal.nD Cert.InprojOddRefIdeal.τ).loc Cert.InprojOddRefIdeal.main_arg1) = m ((c.tc : Thread Cert.InprojOddIdeal.nD Cert.InprojOddIdeal.τ).loc Cert.InprojOddIdeal.main_arg1)) →
    ∃ (v0 : (c : Dev Cert.InprojOddIdeal.nD) → Buf (Elt Ideal) ((c.tc : Thread Cert.InprojOddIdeal.nD Cert.InprojOddIdeal.τ).loc Cert.InprojOddIdeal.main_v12)),
      θ_run (Cert.InprojOddIdeal.defs (F := Ideal)) (onTc (τ := Cert.InprojOddIdeal.τ) (Cert.InprojOddIdeal.main (F := Ideal))) ⟨m, fun _ => 0, g⟩ (fun r => ∀ c : Dev Cert.InprojOddIdeal.nD,
          r.2.mem ((c.tc : Thread Cert.InprojOddIdeal.nD Cert.InprojOddIdeal.τ).loc Cert.InprojOddIdeal.main_v12) = v0 c
          ∧ r.2.mem ((c.tc : Thread Cert.InprojOddIdeal.nD Cert.InprojOddIdeal.τ).loc Cert.InprojOddIdeal.main_arg0) = m ((c.tc : Thread Cert.InprojOddIdeal.nD Cert.InprojOddIdeal.τ).loc Cert.InprojOddIdeal.main_arg0)
          ∧ r.2.mem ((c.tc : Thread Cert.InprojOddIdeal.nD Cert.InprojOddIdeal.τ).loc Cert.InprojOddIdeal.main_arg1) = m ((c.tc : Thread Cert.InprojOddIdeal.nD Cert.InprojOddIdeal.τ).loc Cert.InprojOddIdeal.main_arg1))
      ∧ θ_run (Cert.InprojOddRefIdeal.defs (F := Ideal)) (onTc (τ := Cert.InprojOddRefIdeal.τ) (Cert.InprojOddRefIdeal.main (F := Ideal))) ⟨m', fun _ => 0, g'⟩ (fun r => ∀ c : Dev Cert.InprojOddRefIdeal.nD,
          r.2.mem ((c.tc : Thread Cert.InprojOddRefIdeal.nD Cert.InprojOddRefIdeal.τ).loc Cert.InprojOddRefIdeal.main_v10) = v0 c
          ∧ r.2.mem ((c.tc : Thread Cert.InprojOddRefIdeal.nD Cert.InprojOddRefIdeal.τ).loc Cert.InprojOddRefIdeal.main_arg0) = m' ((c.tc : Thread Cert.InprojOddRefIdeal.nD Cert.InprojOddRefIdeal.τ).loc Cert.InprojOddRefIdeal.main_arg0)
          ∧ r.2.mem ((c.tc : Thread Cert.InprojOddRefIdeal.nD Cert.InprojOddRefIdeal.τ).loc Cert.InprojOddRefIdeal.main_arg1) = m' ((c.tc : Thread Cert.InprojOddRefIdeal.nD Cert.InprojOddRefIdeal.τ).loc Cert.InprojOddRefIdeal.main_arg1))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v5)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v5) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v28) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5))

def preserves_Chunk_ChunkIdeal : Prop :=
  IdealRules.named_const.Statement Cert.ChunkIdeal.κ "mask" .f32 0xF149F2CA#32 ⊥

def algebraic_ChunkIdeal_ChunkRefIdeal_pre_finite_scores [hChunkIdeal : Cert.ChunkIdeal.Facts] [hChunkRefIdeal : Cert.ChunkRefIdeal.Facts] [hPre_finite_scores : Cert.Pre_finite_scores.Facts] : Prop :=
  ∀ (m : (ℓ : Loc Cert.ChunkIdeal.nD Cert.ChunkIdeal.τ Cert.ChunkIdeal.sig) → Buf (Elt Ideal) ℓ) (g : Dev Cert.ChunkIdeal.nD → PrngReg)
    (m' : (ℓ : Loc Cert.ChunkRefIdeal.nD Cert.ChunkRefIdeal.τ Cert.ChunkRefIdeal.sig) → Buf (Elt Ideal) ℓ) (g' : Dev Cert.ChunkRefIdeal.nD → PrngReg), Pre_ChunkIdeal_finite_scores m →
    (∀ c : Dev Cert.ChunkIdeal.nD,
      m' ((c.tc : Thread Cert.ChunkRefIdeal.nD Cert.ChunkRefIdeal.τ).loc Cert.ChunkRefIdeal.main_arg0) = m ((c.tc : Thread Cert.ChunkIdeal.nD Cert.ChunkIdeal.τ).loc Cert.ChunkIdeal.main_arg0)
      ∧ m' ((c.tc : Thread Cert.ChunkRefIdeal.nD Cert.ChunkRefIdeal.τ).loc Cert.ChunkRefIdeal.main_arg1) = m ((c.tc : Thread Cert.ChunkIdeal.nD Cert.ChunkIdeal.τ).loc Cert.ChunkIdeal.main_arg1)) →
    ∃ (v0 : (c : Dev Cert.ChunkIdeal.nD) → Buf (Elt Ideal) ((c.tc : Thread Cert.ChunkIdeal.nD Cert.ChunkIdeal.τ).loc Cert.ChunkIdeal.main_v17)),
      θ_run (Cert.ChunkIdeal.defs (F := Ideal)) (onTc (τ := Cert.ChunkIdeal.τ) (Cert.ChunkIdeal.main (F := Ideal))) ⟨m, fun _ => 0, g⟩ (fun r => ∀ c : Dev Cert.ChunkIdeal.nD,
          r.2.mem ((c.tc : Thread Cert.ChunkIdeal.nD Cert.ChunkIdeal.τ).loc Cert.ChunkIdeal.main_v17) = v0 c
          ∧ r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
          ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1))
      ∧ θ_run (Cert.ChunkRefIdeal.defs (F := Ideal)) (onTc (τ := Cert.ChunkRefIdeal.τ) (Cert.ChunkRefIdeal.main (F := Ideal))) ⟨m', fun _ => 0, g'⟩ (fun r => ∀ c : Dev Cert.ChunkRefIdeal.nD,
          r.2.mem ((c.tc : Thread Cert.ChunkRefIdeal.nD Cert.ChunkRefIdeal.τ).loc Cert.ChunkRefIdeal.main_v57) = v0 c
          ∧ r.2.mem ((c.tc : Thread Cert.ChunkRefIdeal.nD Cert.ChunkRefIdeal.τ).loc Cert.ChunkRefIdeal.main_arg0) = m' ((c.tc : Thread Cert.ChunkRefIdeal.nD Cert.ChunkRefIdeal.τ).loc Cert.ChunkRefIdeal.main_arg0)
          ∧ r.2.mem ((c.tc : Thread Cert.ChunkRefIdeal.nD Cert.ChunkRefIdeal.τ).loc Cert.ChunkRefIdeal.main_arg1) = m' ((c.tc : Thread Cert.ChunkRefIdeal.nD Cert.ChunkRefIdeal.τ).loc Cert.ChunkRefIdeal.main_arg1))

def preserves_Fox_FoxIdeal : Prop :=
  IdealRules.named_const.Statement Cert.FoxIdeal.κ "mask" .f32 0xF149F2CA#32 ⊥

def Claim : Prop :=
  ∃ (hMlp : Cert.Mlp.Facts) (hMlpIdeal : Cert.MlpIdeal.Facts) (hMlpRefIdeal : Cert.MlpRefIdeal.Facts) (hInproj : Cert.Inproj.Facts) (hInprojIdeal : Cert.InprojIdeal.Facts) (hInprojRefIdeal : Cert.InprojRefIdeal.Facts) (hInprojOdd : Cert.InprojOdd.Facts) (hInprojOddIdeal : Cert.InprojOddIdeal.Facts) (hInprojOddRefIdeal : Cert.InprojOddRefIdeal.Facts) (hOutproj : Cert.Outproj.Facts) (hOutprojIdeal : Cert.OutprojIdeal.Facts) (hOutprojRefIdeal : Cert.OutprojRefIdeal.Facts) (hChunk : Cert.Chunk.Facts) (hChunkIdeal : Cert.ChunkIdeal.Facts) (hChunkRefIdeal : Cert.ChunkRefIdeal.Facts) (hFox : Cert.Fox.Facts) (hFoxIdeal : Cert.FoxIdeal.Facts) (hFoxRefIdeal : Cert.FoxRefIdeal.Facts) (hPre_finite_scores : Cert.Pre_finite_scores.Facts),
    quiescent_Mlp (hMlp := hMlp)
    ∧ quiescent_MlpIdeal (hMlpIdeal := hMlpIdeal)
    ∧ quiescent_MlpRefIdeal (hMlpRefIdeal := hMlpRefIdeal)
    ∧ quiescent_Inproj (hInproj := hInproj)
    ∧ quiescent_InprojIdeal (hInprojIdeal := hInprojIdeal)
    ∧ quiescent_InprojRefIdeal (hInprojRefIdeal := hInprojRefIdeal)
    ∧ quiescent_InprojOdd (hInprojOdd := hInprojOdd)
    ∧ quiescent_InprojOddIdeal (hInprojOddIdeal := hInprojOddIdeal)
    ∧ quiescent_InprojOddRefIdeal (hInprojOddRefIdeal := hInprojOddRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Chunk (hChunk := hChunk)
    ∧ quiescent_ChunkIdeal (hChunkIdeal := hChunkIdeal)
    ∧ quiescent_ChunkIdeal_pre_finite_scores (hChunkIdeal := hChunkIdeal) (hPre_finite_scores := hPre_finite_scores)
    ∧ quiescent_ChunkRefIdeal (hChunkRefIdeal := hChunkRefIdeal)
    ∧ quiescent_ChunkRefIdeal_pre_finite_scores (hChunkRefIdeal := hChunkRefIdeal) (hPre_finite_scores := hPre_finite_scores)
    ∧ quiescent_Fox (hFox := hFox)
    ∧ quiescent_FoxIdeal (hFoxIdeal := hFoxIdeal)
    ∧ quiescent_FoxRefIdeal (hFoxRefIdeal := hFoxRefIdeal)
    ∧ preserves_Mlp_MlpIdeal
    ∧ algebraic_MlpIdeal_MlpRefIdeal (hMlpIdeal := hMlpIdeal) (hMlpRefIdeal := hMlpRefIdeal)
    ∧ preserves_Inproj_InprojIdeal
    ∧ algebraic_InprojIdeal_InprojRefIdeal (hInprojIdeal := hInprojIdeal) (hInprojRefIdeal := hInprojRefIdeal)
    ∧ preserves_InprojOdd_InprojOddIdeal
    ∧ algebraic_InprojOddIdeal_InprojOddRefIdeal (hInprojOddIdeal := hInprojOddIdeal) (hInprojOddRefIdeal := hInprojOddRefIdeal)
    ∧ preserves_Outproj_OutprojIdeal
    ∧ algebraic_OutprojIdeal_OutprojRefIdeal (hOutprojIdeal := hOutprojIdeal) (hOutprojRefIdeal := hOutprojRefIdeal)
    ∧ preserves_Chunk_ChunkIdeal
    ∧ algebraic_ChunkIdeal_ChunkRefIdeal_pre_finite_scores (hChunkIdeal := hChunkIdeal) (hChunkRefIdeal := hChunkRefIdeal) (hPre_finite_scores := hPre_finite_scores)
    ∧ preserves_Fox_FoxIdeal
-- ==== Pre_finite_scores.lean ====
abbrev S2x8192x6144 : Shape := ⟨3, ![2, 8192, 6144]⟩
abbrev S8x320 : Shape := ⟨2, ![8, 320]⟩
abbrev S2x8192x2048 : Shape := ⟨3, ![2, 8192, 2048]⟩
abbrev S_ : Shape := ⟨0, ![]⟩

class Facts : Prop where
  slices_S2x8192x6144_S2x8192x2048_0_0_3072 : S2x8192x6144.Slices ![0, 0, 3072] S2x8192x2048
  bcast_S_S2x8192x2048 : S_.BroadcastsInDim S2x8192x2048 (![] : Fin 0 → Fin S2x8192x2048.rank)
  reducesTo_S2x8192x2048_S_d0_1_2 : S2x8192x2048.ReducesTo [0, 1, 2] S_
  h_S_ : 0 < S_.numel
  bcast_S_S8x320 : S_.BroadcastsInDim S8x320 (![] : Fin 0 → Fin S8x320.rank)
  reducesTo_S8x320_S_d0_1 : S8x320.ReducesTo [0, 1] S_

variable [Facts]

def fn {F : FTy → Type} [FloatOps F] (main_arg0 : FVec F S2x8192x6144 .f32) (main_arg1 : FVec F S8x320 .f32) : IVec S_ 1 :=
  let main_v0 : FVec F S2x8192x2048 .f32 := (extractStridedSlice S2x8192x2048 ![0, 0, 3072] · slices_S2x8192x6144_S2x8192x2048_0_0_3072) main_arg0
  let main_v1 : FVec F S2x8192x2048 .f32 := Host.absf main_v0
  let main_cst : FVec F S_ .f32 := constant S_ .f32 0x7F800000#32
  let main_v2 : FVec F S2x8192x2048 .f32 := broadcastInDim S2x8192x2048 ![] bcast_S_S2x8192x2048 main_cst
  let main_v3 : IVec S2x8192x2048 1 := cmpf .olt main_v1 main_v2
  let main_c : IVec S_ 1 := constantI S_ 1 1#1
  let main_v4 : IVec S_ 1 := (fun x v => Host.reduce IntOp.andi x v reducesTo_S2x8192x2048_S_d0_1_2 h_S_) main_v3 main_c
  let main_v5 : FVec F S8x320 .f32 := Host.absf main_arg1
  let main_cst_0 : FVec F S_ .f32 := constant S_ .f32 0x7F800000#32
  let main_v6 : FVec F S8x320 .f32 := broadcastInDim S8x320 ![] bcast_S_S8x320 main_cst_0
  let main_v7 : IVec S8x320 1 := cmpf .olt main_v5 main_v6
  let main_c_1 : IVec S_ 1 := constantI S_ 1 1#1
  let main_v8 : IVec S_ 1 := (fun x v => Host.reduce IntOp.andi x v reducesTo_S8x320_S_d0_1 h_S_) main_v7 main_c_1
  let main_v9 : IVec S_ 1 := andi main_v4 main_v8
  main_v9
-- ==== Mlp.lean ====
abbrev S16384x2048 : Shape := ⟨2, ![16384, 2048]⟩
abbrev S2048x8192 : Shape := ⟨2, ![2048, 8192]⟩
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x8192, .bf16⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S16384x2048 : Shape := ⟨2, ![16384, 2048]⟩
abbrev S2048x8192 : Shape := ⟨2, ![2048, 8192]⟩
abbrev S8192x2048 : Shape := ⟨2, ![8192, 2048]⟩
abbrev S2048 : Shape := ⟨1, ![2048]⟩
abbrev S16384x8192 : Shape := ⟨2, ![16384, 8192]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x8192, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S16384x8192, .f32⟩
  | .hbm, ⟨6, _⟩ => ⟨S_, .f32⟩
  | .hbm, ⟨7, _⟩ => ⟨S16384x8192, .f32⟩
  | .hbm, ⟨8, _⟩ => ⟨S16384x8192, .f32⟩
  | .hbm, ⟨9, _⟩ => ⟨S16384x8192, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Inproj.lean ====
abbrev S16384x2048 : Shape := ⟨2, ![16384, 2048]⟩
abbrev S2048x6144 : Shape := ⟨2, ![2048, 6144]⟩
abbrev S_ : Shape := ⟨0, ![]⟩
abbrev S1x6144 : Shape := ⟨2, ![1, 6144]⟩
abbrev S16384x6144 : Shape := ⟨2, ![16384, 6144]⟩
abbrev S1024x2048 : Shape := ⟨2, ![1024, 2048]⟩
abbrev S2048x1536 : Shape := ⟨2, ![2048, 1536]⟩
abbrev S1x1536 : Shape := ⟨2, ![1, 1536]⟩
abbrev S1024x1536 : Shape := ⟨2, ![1024, 1536]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x6144, .f32⟩
  | .hbm, ⟨2, _⟩ => ⟨S2048x6144, .bf16⟩
  | .hbm, ⟨3, _⟩ => ⟨S_, .f32⟩
  | .hbm, ⟨4, _⟩ => ⟨S1x6144, .f32⟩
  | .hbm, ⟨5, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S2048x1536, .bf16⟩
  | .local _ .vmem, ⟨3, _⟩ => ⟨S2048x1536, .bf16⟩
  | .local _ .vmem, ⟨4, _⟩ => ⟨S1x1536, .f32⟩
  | .local _ .vmem, ⟨5, _⟩ => ⟨S1x1536, .f32⟩
  | .local _ .vmem, ⟨6, _⟩ => ⟨S1024x1536, .f32⟩
  | .local _ .vmem, ⟨7, _⟩ => ⟨S1024x1536, .f32⟩
  | .local _ .vmem, ⟨8, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S16384x2048 : Shape := ⟨2, ![16384, 2048]⟩
abbrev S2048x6144 : Shape := ⟨2, ![2048, 6144]⟩
abbrev S16384x6144 : Shape := ⟨2, ![16384, 6144]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x6144, .f32⟩
  | .hbm, ⟨2, _⟩ => ⟨S16384x6144, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InprojOdd.lean ====
abbrev S16384x2048 : Shape := ⟨2, ![16384, 2048]⟩
abbrev S2048x6152 : Shape := ⟨2, ![2048, 6152]⟩
abbrev S2048x3072 : Shape := ⟨2, ![2048, 3072]⟩
abbrev S2048x6144 : Shape := ⟨2, ![2048, 6144]⟩
abbrev S_ : Shape := ⟨0, ![]⟩
abbrev S1024 : Shape := ⟨1, ![1024]⟩
abbrev S6144 : Shape := ⟨1, ![6144]⟩
abbrev S1x6144 : Shape := ⟨2, ![1, 6144]⟩
abbrev S16384x6144 : Shape := ⟨2, ![16384, 6144]⟩
abbrev S1024x2048 : Shape := ⟨2, ![1024, 2048]⟩
abbrev S2048x1536 : Shape := ⟨2, ![2048, 1536]⟩
abbrev S1x1536 : Shape := ⟨2, ![1, 1536]⟩
abbrev S1024x1536 : Shape := ⟨2, ![1024, 1536]⟩

abbrev nBuf : Space → Nat
  | .hbm => 18
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x6152, .f32⟩
  | .hbm, ⟨2, _⟩ => ⟨S2048x3072, .f32⟩
  | .hbm, ⟨3, _⟩ => ⟨S2048x3072, .f32⟩
  | .hbm, ⟨4, _⟩ => ⟨S2048x6144, .f32⟩
  | .hbm, ⟨5, _⟩ => ⟨S2048x6144, .bf16⟩
  | .hbm, ⟨6, _⟩ => ⟨S16384x2048, .bf16⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S6144, .f32⟩
  | .hbm, ⟨16, _⟩ => ⟨S1x6144, .f32⟩
  | .hbm, ⟨17, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1x1536, .f32⟩
  | .local _ .vmem, ⟨5, _⟩ => ⟨S1x1536, .f32⟩
  | .local _ .vmem, ⟨6, _⟩ => ⟨S1024x1536, .bf16⟩
  | .local _ .vmem, ⟨7, _⟩ => ⟨S1024x1536, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojOddRefIdeal.lean ====
abbrev S16384x2048 : Shape := ⟨2, ![16384, 2048]⟩
abbrev S2048x6152 : Shape := ⟨2, ![2048, 6152]⟩
abbrev S16384x6152 : Shape := ⟨2, ![16384, 6152]⟩
abbrev S16384x1024 : Shape := ⟨2, ![16384, 1024]⟩
abbrev S_ : Shape := ⟨0, ![]⟩
abbrev S16384x6144 : Shape := ⟨2, ![16384, 6144]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x6152, .f32⟩
  | .hbm, ⟨2, _⟩ => ⟨S16384x6152, .f32⟩
  | .hbm, ⟨3, _⟩ => ⟨S16384x1024, .f32⟩
  | .hbm, ⟨4, _⟩ => ⟨S16384x2048, .f32⟩
  | .hbm, ⟨5, _⟩ => ⟨S16384x1024, .f32⟩
  | .hbm, ⟨6, _⟩ => ⟨S16384x2048, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x6144, .f32⟩
  | .hbm, ⟨14, _⟩ => ⟨S16384x6144, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Outproj.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S16384x1024, .bf16⟩
  | .hbm, ⟨7, _⟩ => ⟨S16384x1024, .bf16⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutprojRefIdeal.lean ====
abbrev S16384x1024 : Shape := ⟨2, ![16384, 1024]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S2048x2048, .f32⟩
  | .hbm, ⟨3, _⟩ => ⟨S16384x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Chunk.lean ====
abbrev S2x8192x6144 : Shape := ⟨3, ![2, 8192, 6144]⟩
abbrev S8x320 : Shape := ⟨2, ![8, 320]⟩
abbrev S_ : Shape := ⟨0, ![]⟩
abbrev S1024 : Shape := ⟨1, ![1024]⟩
abbrev S6144 : Shape := ⟨1, ![6144]⟩
abbrev S1x6144 : Shape := ⟨2, ![1, 6144]⟩
abbrev S1x1x6144 : Shape := ⟨3, ![1, 1, 6144]⟩
abbrev S8x1 : Shape := ⟨2, ![8, 1]⟩
abbrev S8x256 : Shape := ⟨2, ![8, 256]⟩
abbrev S8x448 : Shape := ⟨2, ![8, 448]⟩
abbrev S8x1024 : Shape := ⟨2, ![8, 1024]⟩
abbrev S8x1x1024 : Shape := ⟨3, ![8, 1, 1024]⟩
abbrev S2x8192x1024 : Shape := ⟨3, ![2, 8192, 1024]⟩
abbrev S1x512x512 : Shape := ⟨3, ![1, 512, 512]⟩
abbrev S4x1x1024 : Shape := ⟨3, ![4, 1, 1024]⟩
abbrev S3x4x768x256 : Shape := ⟨4, ![3, 4, 768, 256]⟩
abbrev S256x1024 : Shape := ⟨2, ![256, 1024]⟩
abbrev S768x256 : Shape := ⟨2, ![768, 256]⟩
abbrev S1x1x1024 : Shape := ⟨3, ![1, 1, 1024]⟩
abbrev S1x1024 : Shape := ⟨2, ![1, 1024]⟩
abbrev S256x768 : Shape := ⟨2, ![256, 768]⟩
abbrev S1x1x768x256 : Shape := ⟨4, ![1, 1, 768, 256]⟩
abbrev S16x512 : Shape := ⟨2, ![16, 512]⟩
abbrev S1x512x128 : Shape := ⟨3, ![1, 512, 128]⟩
abbrev S512x128 : Shape := ⟨2, ![512, 128]⟩
abbrev S256x128 : Shape := ⟨2, ![256, 128]⟩
abbrev S768x128 : Shape := ⟨2, ![768, 128]⟩
abbrev S1x256x128 : Shape := ⟨3, ![1, 256, 128]⟩
abbrev S128x512 : Shape := ⟨2, ![128, 512]⟩
abbrev S144x512 : Shape := ⟨2, ![144, 512]⟩
abbrev S144x256 : Shape := ⟨2, ![144, 256]⟩
abbrev S144x768 : Shape := ⟨2, ![144, 768]⟩
abbrev S256 : Shape := ⟨1, ![256]⟩
abbrev S1x256 : Shape := ⟨2, ![1, 256]⟩
abbrev S128x256 : Shape := ⟨2, ![128, 256]⟩

abbrev nBuf : Space → Nat
  | .hbm => 23
  | .vmem => 15
  | .smem => 0
  | _ => 0

abbrev bufTy : (tb : Table) → Fin (tcTables nBuf tb) → BufTy
  | .hbm, ⟨0, _⟩ => ⟨S2x8192x6144, .f32⟩
  | .hbm, ⟨1, _⟩ => ⟨S8x320, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S6144, .f32⟩
  | .hbm, ⟨11, _⟩ => ⟨S1x6144, .f32⟩
  | .hbm, ⟨12, _⟩ => ⟨S1x1x6144, .f32⟩
  | .hbm, ⟨13, _⟩ => ⟨S2x8192x6144, .f32⟩
  | .hbm, ⟨14, _⟩ => ⟨S2x8192x6144, .f32⟩
  | .hbm, ⟨15, _⟩ => ⟨S2x8192x6144, .bf16⟩
  | .hbm, ⟨16, _⟩ => ⟨S8x1, .f32⟩
  | .hbm, ⟨17, _⟩ => ⟨S8x256, .f32⟩
  | .hbm, ⟨18, _⟩ => ⟨S8x320, .f32⟩
  | .hbm, ⟨19, _⟩ => ⟨S8x448, .f32⟩
  | .hbm, ⟨20, _⟩ => ⟨S8x1024, .f32⟩
  | .hbm, ⟨21, _⟩ => ⟨S8x1x1024, .f32⟩
  | .hbm, ⟨22, _⟩ => ⟨S2x8192x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S4x1x1024, .f32⟩
  | .local _ .vmem, ⟨11, _⟩ => ⟨S4x1x1024, .f32⟩
  | .local _ .vmem, ⟨12, _⟩ => ⟨S1x512x512, .bf16⟩
  | .local _ .vmem, ⟨13, _⟩ => ⟨S1x512x512, .bf16⟩
  | .local _ .vmem, ⟨14, _⟩ => ⟨S3x4x768x256, .f32⟩
  | _, _ => ⟨S2x8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 16], ![false, false, false]⟩

def k0_off1 (i : grid0.Coords) (c1_i32 : BitVec 32) : Fin 4 → Nat :=
  let arg2 : BitVec 32 := BitVec.ofNat 32 (i 2).val
  let c0_i32_2 : BitVec 32 := 0#32
  let v5 : BitVec 1 := Scalar.cmpi .eq arg2 c0_i32_2
  let c0_i32_3 : BitVec 32 := 0#32
  let v6 : BitVec 32 := Scalar.select v5 c1_i32 c0_i32_3
  let v27 : Index := Scalar.indexCast v6
  let c0_17 : Index := 0#32
  let c0_18 : Index := 0#32
  let c0_19 : Index := 0#32
  ![v27.toNat, 0, 0, 0]
def k0_off2 (i : grid0.Coords) (c1_i32 : BitVec 32) : Fin 4 → Nat :=
  let arg2 : BitVec 32 := BitVec.ofNat 32 (i 2).val
  let c0_i32_2 : BitVec 32 := 0#32
  let v5 : BitVec 1 := Scalar.cmpi .eq arg2 c0_i32_2
  let c0_i32_3 : BitVec 32 := 0#32
  let v6 : BitVec 32 := Scalar.select v5 c1_i32 c0_i32_3
  let v49 : Index := Scalar.indexCast v6
  let c1 : Index := 1#32
  let c0_35 : Index := 0#32
  let c0_36 : Index := 0#32
  ![v49.toNat, 1, 0, 0]
def k0_off3 (i : grid0.Coords) (c1_i32 : BitVec 32) : Fin 4 → Nat :=
  let arg2 : BitVec 32 := BitVec.ofNat 32 (i 2).val
  let c0_i32_2 : BitVec 32 := 0#32
  let v5 : BitVec 1 := Scalar.cmpi .eq arg2 c0_i32_2
  let c0_i32_3 : BitVec 32 := 0#32
  let v6 : BitVec 32 := Scalar.select v5 c1_i32 c0_i32_3
  let v71 : Index := Scalar.indexCast v6
  let c2 : Index := 2#32
  let c0_54 : Index := 0#32
  let c0_55 : Index := 0#32
  ![v71.toNat, 2, 0, 0]
def k0_off4 (i : grid0.Coords) (c1_i32 : BitVec 32) : Fin 4 → Nat :=
  let arg2 : BitVec 32 := BitVec.ofNat 32 (i 2).val
  let c0_i32_2 : BitVec 32 := 0#32
  let v5 : BitVec 1 := Scalar.cmpi .eq arg2 c0_i32_2
  let c0_i32_3 : BitVec 32 := 0#32
  let v6 : BitVec 32 := Scalar.select v5 c1_i32 c0_i32_3
  let v93 : Index := Scalar.indexCast v6
  let c3 : Index := 3#32
  let c0_72 : Index := 0#32
  let c0_73 : Index := 0#32
  ![v93.toNat, 3, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg0
  let c0_i32 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![arg1.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c10_i32 : BitVec 32 := 10#32
  let v2 : BitVec 32 := Scalar.addi c10_i32 arg0
  let c0_i32_0 : BitVec 32 := 0#32
  ![arg1.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  ![arg1.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ChunkIdeal.lean ====
variable {F : FTy → Type} [FloatOps F] [Named F]
def κ : String → Option EReal := fun
  | "mask" => some ⊥
  | _ => none
-- ==== ChunkRefIdeal.lean ====
abbrev S2x8192x6144 : Shape := ⟨3, ![2, 8192, 6144]⟩
abbrev S8x320 : Shape := ⟨2, ![8, 320]⟩
abbrev S2x8192x1024 : Shape := ⟨3, ![2, 8192, 1024]⟩
abbrev S2x8192x8x128 : Shape := ⟨4, ![2, 8192, 8, 128]⟩
abbrev S2x8x8192x128 : Shape := ⟨4, ![2, 8, 8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S8192x8192x1 : Shape := ⟨3, ![8192, 8192, 1]⟩
abbrev S8x8192x8192 : Shape := ⟨3, ![8, 8192, 8192]⟩
abbrev S2x8x8192x8192 : Shape := ⟨4, ![2, 8, 8192, 8192]⟩
abbrev S1x8x8192x8192 : Shape := ⟨4, ![1, 8, 8192, 8192]⟩
abbrev S2x8x8192 : Shape := ⟨3, ![2, 8, 8192]⟩
abbrev S2x8x8192x1 : Shape := ⟨4, ![2, 8, 8192, 1]⟩

abbrev nBuf : Space → Nat
  | .hbm => 114
  | .vmem => 0
  | .smem => 0
  | _ => 0

abbrev bufTy : (tb : Table) → Fin (tcTables nBuf tb) → BufTy
  | .hbm, ⟨0, _⟩ => ⟨S2x8192x6144, .f32⟩
  | .hbm, ⟨1, _⟩ => ⟨S8x320, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S2x8192x8x128, .f32⟩
  | .hbm, ⟨6, _⟩ => ⟨S2x8x8192x128, .f32⟩
  | .hbm, ⟨7, _⟩ => ⟨S2x8192x8x128, .f32⟩
  | .hbm, ⟨8, _⟩ => ⟨S2x8x8192x128, .f32⟩
  | .hbm, ⟨9, _⟩ => ⟨S2x8192x8x128, .f32⟩
  | .hbm, ⟨10, _⟩ => ⟨S2x8x8192x128, .f32⟩
  | .hbm, ⟨11, _⟩ => ⟨S8192, .i32⟩
  | .hbm, ⟨12, _⟩ => ⟨S8192x1, .i32⟩
  | .hbm, ⟨13, _⟩ => ⟨S8192, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S_, .i32⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i32⟩
  | .hbm, ⟨29, _⟩ => ⟨S_, .i32⟩
  | .hbm, ⟨30, _⟩ => ⟨S8192x8192, .i32⟩
  | .hbm, ⟨31, _⟩ => ⟨S8192x8192, .i1⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i32⟩
  | .hbm, ⟨36, _⟩ => ⟨S8192x8192x1, .i32⟩
  | .hbm, ⟨37, _⟩ => ⟨S8x8192x8192, .f32⟩
  | .hbm, ⟨38, _⟩ => ⟨S2x8x8192x8192, .f32⟩
  | .hbm, ⟨39, _⟩ => ⟨S_, .f32⟩
  | .hbm, ⟨40, _⟩ => ⟨S2x8x8192x8192, .f32⟩
  | .hbm, ⟨41, _⟩ => ⟨S2x8x8192x8192, .f32⟩
  | .hbm, ⟨42, _⟩ => ⟨S1x8x8192x8192, .f32⟩
  | .hbm, ⟨43, _⟩ => ⟨S2x8x8192x8192, .f32⟩
  | .hbm, ⟨44, _⟩ => ⟨S2x8x8192x8192, .f32⟩
  | .hbm, ⟨45, _⟩ => ⟨S_, .i32⟩
  | .hbm, ⟨46, _⟩ => ⟨S_, .i32⟩
  | .hbm, ⟨47, _⟩ => ⟨S8192x1, .i32⟩
  | .hbm, ⟨48, _⟩ => ⟨S8192x1, .i32⟩
  | .hbm, ⟨49, _⟩ => ⟨S8192x1, .i32⟩
  | .hbm, ⟨50, _⟩ => ⟨S_, .i32⟩
  | .hbm, ⟨51, _⟩ => ⟨S8192x1, .i32⟩
  | .hbm, ⟨52, _⟩ => ⟨S8192x1, .i1⟩
  | .hbm, ⟨53, _⟩ => ⟨S8192x1, .i32⟩
  | .hbm, ⟨54, _⟩ => ⟨S8192x1, .i32⟩
  | .hbm, ⟨55, _⟩ => ⟨S_, .i32⟩
  | .hbm, ⟨56, _⟩ => ⟨S8192x1, .i32⟩
  | .hbm, ⟨57, _⟩ => ⟨S8192x1, .i1⟩
  | .hbm, ⟨58, _⟩ => ⟨S8192x1, .i1⟩
  | .hbm, ⟨59, _⟩ => ⟨S_, .i32⟩
  | .hbm, ⟨60, _⟩ => ⟨S8192x1, .i32⟩
  | .hbm, ⟨61, _⟩ => ⟨S8192x1, .i32⟩
  | .hbm, ⟨62, _⟩ => ⟨S8192x1, .i32⟩
  | .hbm, ⟨63, _⟩ => ⟨S_, .i32⟩
  | .hbm, ⟨64, _⟩ => ⟨S_, .i32⟩
  | .hbm, ⟨65, _⟩ => ⟨S1x8192, .i32⟩
  | .hbm, ⟨66, _⟩ => ⟨S1x8192, .i32⟩
  | .hbm, ⟨67, _⟩ => ⟨S1x8192, .i32⟩
  | .hbm, ⟨68, _⟩ => ⟨S_, .i32⟩
  | .hbm, ⟨69, _⟩ => ⟨S1x8192, .i32⟩
  | .hbm, ⟨70, _⟩ => ⟨S1x8192, .i1⟩
  | .hbm, ⟨71, _⟩ => ⟨S1x8192, .i32⟩
  | .hbm, ⟨72, _⟩ => ⟨S1x8192, .i32⟩
  | .hbm, ⟨73, _⟩ => ⟨S_, .i32⟩
  | .hbm, ⟨74, _⟩ => ⟨S1x8192, .i32⟩
  | .hbm, ⟨75, _⟩ => ⟨S1x8192, .i1⟩
  | .hbm, ⟨76, _⟩ => ⟨S1x8192, .i1⟩
  | .hbm, ⟨77, _⟩ => ⟨S_, .i32⟩
  | .hbm, ⟨78, _⟩ => ⟨S1x8192, .i32⟩
  | .hbm, ⟨79, _⟩ => ⟨S1x8192, .i32⟩
  | .hbm, ⟨80, _⟩ => ⟨S1x8192, .i32⟩
  | .hbm, ⟨81, _⟩ => ⟨S8192x8192, .i32⟩
  | .hbm, ⟨82, _⟩ => ⟨S8192x8192, .i32⟩
  | .hbm, ⟨83, _⟩ => ⟨S8192x8192, .i32⟩
  | .hbm, ⟨84, _⟩ => ⟨S_, .i32⟩
  | .hbm, ⟨85, _⟩ => ⟨S8192x8192, .i32⟩
  | .hbm, ⟨86, _⟩ => ⟨S8192x8192, .i1⟩
  | .hbm, ⟨87, _⟩ => ⟨S_, .i32⟩
  | .hbm, ⟨88, _⟩ => ⟨S8192x8192, .i32⟩
  | .hbm, ⟨89, _⟩ => ⟨S8192x8192, .i1⟩
  | .hbm, ⟨90, _⟩ => ⟨S8192x8192, .i1⟩
  | .hbm, ⟨91, _⟩ => ⟨S_, .f32⟩
  | .hbm, ⟨92, _⟩ => ⟨S_, .f32⟩
  | .hbm, ⟨93, _⟩ => ⟨S2x8x8192x8192, .i1⟩
  | .hbm, ⟨94, _⟩ => ⟨S2x8x8192x8192, .f32⟩
  | .hbm, ⟨95, _⟩ => ⟨S2x8x8192x8192, .f32⟩
  | .hbm, ⟨96, _⟩ => ⟨S_, .f32⟩
  | .hbm, ⟨97, _⟩ => ⟨S2x8x8192, .f32⟩
  | .hbm, ⟨98, _⟩ => ⟨S_, .f32⟩
  | .hbm, ⟨99, _⟩ => ⟨S2x8x8192, .f32⟩
  | .hbm, ⟨100, _⟩ => ⟨S2x8x8192, .f32⟩
  | .hbm, ⟨101, _⟩ => ⟨S2x8x8192x1, .f32⟩
  | .hbm, ⟨102, _⟩ => ⟨S2x8x8192x8192, .f32⟩
  | .hbm, ⟨103, _⟩ => ⟨S2x8x8192x8192, .f32⟩
  | .hbm, ⟨104, _⟩ => ⟨S2x8x8192x8192, .f32⟩
  | .hbm, ⟨105, _⟩ => ⟨S_, .f32⟩
  | .hbm, ⟨106, _⟩ => ⟨S2x8x8192, .f32⟩
  | .hbm, ⟨107, _⟩ => ⟨S2x8x8192x1, .f32⟩
  | .hbm, ⟨108, _⟩ => ⟨S2x8x8192x8192, .f32⟩
  | .hbm, ⟨109, _⟩ => ⟨S2x8x8192x8192, .f32⟩
  | .hbm, ⟨110, _⟩ => ⟨S2x8x8192x128, .f32⟩
  | .hbm, ⟨111, _⟩ => ⟨S2x8192x8x128, .f32⟩
  | .hbm, ⟨112, _⟩ => ⟨S2x8192x1024, .f32⟩
  | .hbm, ⟨113, _⟩ => ⟨S2x8192x1024, .bf16⟩
  | _, _ => ⟨S2x8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_c : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_0 : Ref sig .tc := ⟨.hbm, 59, rfl⟩
abbrev main_call1_v12 : Ref sig .tc := ⟨.hbm, 60, rfl⟩
abbrev main_call1_v13 : Ref sig .tc := ⟨.hbm, 61, rfl⟩
abbrev main_v32 : Ref sig .tc := ⟨.hbm, 62, rfl⟩
abbrev main_c_5 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_c : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_0 : Ref sig .tc := ⟨.hbm, 77, rfl⟩
abbrev main_call2_v12 : Ref sig .tc := ⟨.hbm, 78, rfl⟩
abbrev main_call2_v13 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_c_6 : Ref sig .tc := ⟨.hbm, 84, rfl⟩
abbrev main_v37 : Ref sig .tc := ⟨.hbm, 85, rfl⟩
abbrev main_v38 : Ref sig .tc := ⟨.hbm, 86, rfl⟩
abbrev main_c_7 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v42 : Ref sig .tc := ⟨.hbm, 95, rfl⟩
abbrev main_cst_9 : Ref sig .tc := ⟨.hbm, 96, rfl⟩
abbrev main_v43 : Ref sig .tc := ⟨.hbm, 97, rfl⟩
abbrev main_cst_10 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_11 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩

abbrev nD : Nat := 1
abbrev τ : Topo := Topo.v7x

variable {F : FTy → Type} [FloatOps F]
-- ==== Fox.lean ====
abbrev S2x8192x6144 : Shape := ⟨3, ![2, 8192, 6144]⟩
abbrev S2x8192x8 : Shape := ⟨3, ![2, 8192, 8]⟩
abbrev S_ : Shape := ⟨0, ![]⟩
abbrev S2x8x8192 : Shape := ⟨3, ![2, 8, 8192]⟩
abbrev S2x8x8192x1 : Shape := ⟨4, ![2, 8, 8192, 1]⟩
abbrev S2x8x8192x125 : Shape := ⟨4, ![2, 8, 8192, 125]⟩
abbrev S2x8x8192x128 : Shape := ⟨4, ![2, 8, 8192, 128]⟩
abbrev S1024 : Shape := ⟨1, ![1024]⟩
abbrev S6144 : Shape := ⟨1, ![6144]⟩
abbrev S1x6144 : Shape := ⟨2, ![1, 6144]⟩
abbrev S1x1x6144 : Shape := ⟨3, ![1, 1, 6144]⟩
abbrev S2x8192x1024 : Shape := ⟨3, ![2, 8192, 1024]⟩
abbrev S1x512x512 : Shape := ⟨3, ![1, 512, 512]⟩
abbrev S1x8192x512 : Shape := ⟨3, ![1, 8192, 512]⟩
abbrev S1x4x8192x128 : Shape := ⟨4, ![1, 4, 8192, 128]⟩
abbrev S4x144x8192 : Shape := ⟨3, ![4, 144, 8192]⟩
abbrev S4x144x512 : Shape := ⟨3, ![4, 144, 512]⟩
abbrev S16x512 : Shape := ⟨2, ![16, 512]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S1x16x512 : Shape := ⟨3, ![1, 16, 512]⟩
abbrev S512x256 : Shape := ⟨2, ![512, 256]⟩
abbrev S1x512 : Shape := ⟨2, ![1, 512]⟩
abbrev S1x1024x128 : Shape := ⟨3, ![1, 1024, 128]⟩
abbrev S1024x128 : Shape := ⟨2, ![1024, 128]⟩
abbrev S1x1x1024x128 : Shape := ⟨4, ![1, 1, 1024, 128]⟩
abbrev S1024x256 : Shape := ⟨2, ![1024, 256]⟩
abbrev S1024x512 : Shape := ⟨2, ![1024, 512]⟩
abbrev S512 : Shape := ⟨1, ![512]⟩
abbrev S1x144x1024 : Shape := ⟨3, ![1, 144, 1024]⟩
abbrev S144x1024 : Shape := ⟨2, ![144, 1024]⟩
abbrev S144x512 : Shape := ⟨2, ![144, 512]⟩
abbrev S1x144x512 : Shape := ⟨3, ![1, 144, 512]⟩
abbrev S1x1x512x128 : Shape := ⟨4, ![1, 1, 512, 128]⟩
abbrev S512x512 : Shape := ⟨2, ![512, 512]⟩
abbrev S1x1x512 : Shape := ⟨3, ![1, 1, 512]⟩

abbrev nBuf : Space → Nat
  | .hbm => 37
  | .vmem => 9
  | .smem => 0
  | _ => 0

abbrev bufTy : (tb : Table) → Fin (tcTables nBuf tb) → BufTy
  | .hbm, ⟨0, _⟩ => ⟨S2x8192x6144, .f32⟩
  | .hbm, ⟨1, _⟩ => ⟨S2x8192x8, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S2x8192x8, .f32⟩
  | .hbm, ⟨6, _⟩ => ⟨S2x8192x8, .f32⟩
  | .hbm, ⟨7, _⟩ => ⟨S2x8x8192, .f32⟩
  | .hbm, ⟨8, _⟩ => ⟨S2x8x8192x1, .f32⟩
  | .hbm, ⟨9, _⟩ => ⟨S2x8x8192x1, .bf16⟩
  | .hbm, ⟨10, _⟩ => ⟨S2x8x8192x1, .f32⟩
  | .hbm, ⟨11, _⟩ => ⟨S2x8x8192x1, .f32⟩
  | .hbm, ⟨12, _⟩ => ⟨S2x8x8192x1, .bf16⟩
  | .hbm, ⟨13, _⟩ => ⟨S2x8x8192x1, .f32⟩
  | .hbm, ⟨14, _⟩ => ⟨S2x8x8192x1, .f32⟩
  | .hbm, ⟨15, _⟩ => ⟨S2x8x8192x1, .bf16⟩
  | .hbm, ⟨16, _⟩ => ⟨S_, .bf16⟩
  | .hbm, ⟨17, _⟩ => ⟨S2x8x8192x125, .bf16⟩
  | .hbm, ⟨18, _⟩ => ⟨S2x8x8192x128, .bf16⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S6144, .f32⟩
  | .hbm, ⟨31, _⟩ => ⟨S1x6144, .f32⟩
  | .hbm, ⟨32, _⟩ => ⟨S1x1x6144, .f32⟩
  | .hbm, ⟨33, _⟩ => ⟨S2x8192x6144, .f32⟩
  | .hbm, ⟨34, _⟩ => ⟨S2x8192x6144, .f32⟩
  | .hbm, ⟨35, _⟩ => ⟨S2x8192x6144, .bf16⟩
  | .hbm, ⟨36, _⟩ => ⟨S2x8192x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x4x8192x128, .bf16⟩
  | .local _ .vmem, ⟨5, _⟩ => ⟨S1x512x512, .bf16⟩
  | .local _ .vmem, ⟨6, _⟩ => ⟨S1x512x512, .bf16⟩
  | .local _ .vmem, ⟨7, _⟩ => ⟨S4x144x8192, .bf16⟩
  | .local _ .vmem, ⟨8, _⟩ => ⟨S4x144x512, .f32⟩
  | _, _ => ⟨S2x8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![2, 2, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_46 : BitVec 32 := 0#32
  let c16_i32 : BitVec 32 := 16#32
  let v87 : BitVec 32 := Scalar.addi c0_i32_46 c16_i32
  let c1_i32_47 : BitVec 32 := 1#32
  ⟨c0_i32_46, v87, c1_i32_47⟩
def k0_mult1 (k0_t1 : Fin k0_t1_loop.trips) : BitVec 32 :=
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  v88
def k0_off1 (k0_t1 : Fin k0_t1_loop.trips) : Fin 3 → Nat :=
  let c0_49 : Index := 0#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v90 : Index := Scalar.indexCast v89
  let c0_50 : Index := 0#32
  ![0, v90.toNat, 0]
def k0_off2 (k0_t1 : Fin k0_t1_loop.trips) : Fin 3 → Nat :=
  let c0_51 : Index := 0#32
  let c0_52 : Index := 0#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v94 : Index := Scalar.indexCast v89
  ![0, 0, v94.toNat]
def k0_off3 (k0_t1 : Fin k0_t1_loop.trips) : Fin 3 → Nat :=
  let c0_53 : Index := 0#32
  let c128_54 : Index := 128#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v98 : Index := Scalar.indexCast v89
  ![0, 128, v98.toNat]
def k0_off4 (k0_t1 : Fin k0_t1_loop.trips) : Fin 3 → Nat :=
  let c0_55 : Index := 0#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v102 : Index := Scalar.indexCast v89
  let c128_56 : Index := 128#32
  ![0, v102.toNat, 128]
def k0_off5 (k0_t1 : Fin k0_t1_loop.trips) : Fin 3 → Nat :=
  let c1 : Index := 1#32
  let c0_57 : Index := 0#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v106 : Index := Scalar.indexCast v89
  ![1, 0, v106.toNat]
def k0_off6 (k0_t1 : Fin k0_t1_loop.trips) : Fin 3 → Nat :=
  let c1_58 : Index := 1#32
  let c128_59 : Index := 128#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v110 : Index := Scalar.indexCast v89
  ![1, 128, v110.toNat]
def k0_off7 (k0_t1 : Fin k0_t1_loop.trips) : Fin 3 → Nat :=
  let c0_60 : Index := 0#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v114 : Index := Scalar.indexCast v89
  let c256_61 : Index := 256#32
  ![0, v114.toNat, 256]
def k0_off8 (k0_t1 : Fin k0_t1_loop.trips) : Fin 3 → Nat :=
  let c2 : Index := 2#32
  let c0_62 : Index := 0#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v118 : Index := Scalar.indexCast v89
  ![2, 0, v118.toNat]
def k0_off9 (k0_t1 : Fin k0_t1_loop.trips) : Fin 3 → Nat :=
  let c2_63 : Index := 2#32
  let c128_64 : Index := 128#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v122 : Index := Scalar.indexCast v89
  ![2, 128, v122.toNat]
def k0_off10 (k0_t1 : Fin k0_t1_loop.trips) : Fin 3 → Nat :=
  let c0_65 : Index := 0#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v126 : Index := Scalar.indexCast v89
  let c384_66 : Index := 384#32
  ![0, v126.toNat, 384]
def k0_off11 (k0_t1 : Fin k0_t1_loop.trips) : Fin 3 → Nat :=
  let c3 : Index := 3#32
  let c0_67 : Index := 0#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v130 : Index := Scalar.indexCast v89
  ![3, 0, v130.toNat]
def k0_off12 (k0_t1 : Fin k0_t1_loop.trips) : Fin 3 → Nat :=
  let c3_68 : Index := 3#32
  let c128_69 : Index := 128#32
  let c0_i32_46 : BitVec 32 := 0#32
  let c1_i32_47 : BitVec 32 := 1#32
  let arg10 : BitVec 32 := Scf.iv c0_i32_46 c1_i32_47 k0_t1
  let c512_i32 : BitVec 32 := 512#32
  let v88 : BitVec 32 := Scalar.muli arg10 c512_i32
  let v89 : BitVec 32 := v88
  let v134 : Index := Scalar.indexCast v89
  ![3, 128, v134.toNat]
@[reducible] def k0_t2_loop (i : grid0.Coords) : Scf.Loop 32 :=
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_25 : BitVec 32 := 1#32
  ⟨c0_i32_23, v51, c1_i32_25⟩
def k0_mult2 (i : grid0.Coords) (k0_t2 : Fin (k0_t2_loop i).trips) : BitVec 32 :=
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  v81
def k0_off13 (i : grid0.Coords) (k0_t2 : Fin (k0_t2_loop i).trips) : Fin 3 → Nat :=
  let c0_44 : Index := 0#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v83 : Index := Scalar.indexCast v82
  let c0_45 : Index := 0#32
  ![0, v83.toNat, 0]
def k0_off14 (i : grid0.Coords) (k0_t2 : Fin (k0_t2_loop i).trips) : Fin 4 → Nat :=
  let c0_46 : Index := 0#32
  let c0_47 : Index := 0#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v86 : Index := Scalar.indexCast v82
  let c0_48 : Index := 0#32
  ![0, 0, v86.toNat, 0]
def k0_off15 (i : grid0.Coords) (k0_t2 : Fin (k0_t2_loop i).trips) : Fin 3 → Nat :=
  let c0_50 : Index := 0#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v91 : Index := Scalar.indexCast v82
  let c128_51 : Index := 128#32
  ![0, v91.toNat, 128]
def k0_off16 (i : grid0.Coords) (k0_t2 : Fin (k0_t2_loop i).trips) : Fin 4 → Nat :=
  let c0_52 : Index := 0#32
  let c1 : Index := 1#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v94 : Index := Scalar.indexCast v82
  let c0_53 : Index := 0#32
  ![0, 1, v94.toNat, 0]
def k0_off17 (i : grid0.Coords) (k0_t2 : Fin (k0_t2_loop i).trips) : Fin 3 → Nat :=
  let c0_55 : Index := 0#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v99 : Index := Scalar.indexCast v82
  let c256_56 : Index := 256#32
  ![0, v99.toNat, 256]
def k0_off18 (i : grid0.Coords) (k0_t2 : Fin (k0_t2_loop i).trips) : Fin 4 → Nat :=
  let c0_57 : Index := 0#32
  let c2 : Index := 2#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v102 : Index := Scalar.indexCast v82
  let c0_58 : Index := 0#32
  ![0, 2, v102.toNat, 0]
def k0_off19 (i : grid0.Coords) (k0_t2 : Fin (k0_t2_loop i).trips) : Fin 3 → Nat :=
  let c0_60 : Index := 0#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v107 : Index := Scalar.indexCast v82
  let c384_61 : Index := 384#32
  ![0, v107.toNat, 384]
def k0_off20 (i : grid0.Coords) (k0_t2 : Fin (k0_t2_loop i).trips) : Fin 4 → Nat :=
  let c0_62 : Index := 0#32
  let c3 : Index := 3#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v110 : Index := Scalar.indexCast v82
  let c0_63 : Index := 0#32
  ![0, 3, v110.toNat, 0]
def k0_off21 (i : grid0.Coords) (k0_t2 : Fin (k0_t2_loop i).trips) : Fin 3 → Nat :=
  let c0_66 : Index := 0#32
  let c0_67 : Index := 0#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v122 : Index := Scalar.indexCast v82
  ![0, 0, v122.toNat]
def k0_off22 (i : grid0.Coords) (k0_t2 : Fin (k0_t2_loop i).trips) : Fin 3 → Nat :=
  let c1_76 : Index := 1#32
  let c0_77 : Index := 0#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v143 : Index := Scalar.indexCast v82
  ![1, 0, v143.toNat]
def k0_off23 (i : grid0.Coords) (k0_t2 : Fin (k0_t2_loop i).trips) : Fin 3 → Nat :=
  let c2_86 : Index := 2#32
  let c0_87 : Index := 0#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v164 : Index := Scalar.indexCast v82
  ![2, 0, v164.toNat]
def k0_off24 (i : grid0.Coords) (k0_t2 : Fin (k0_t2_loop i).trips) : Fin 3 → Nat :=
  let c3_96 : Index := 3#32
  let c0_97 : Index := 0#32
  let c0_i32_23 : BitVec 32 := 0#32
  let c1_i32_25 : BitVec 32 := 1#32
  let arg10 : BitVec 32 := Scf.iv c0_i32_23 c1_i32_25 k0_t2
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v185 : Index := Scalar.indexCast v82
  ![3, 0, v185.toNat]
@[reducible] def k0_t3_loop (i : grid0.Coords) : Scf.Loop 32 :=
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let v48 : BitVec 32 := Scalar.addi c0_i32_23 v47
  let c1_i32_26 : BitVec 32 := 1#32
  ⟨v51, v48, c1_i32_26⟩
def k0_mult3 (i : grid0.Coords) (k0_t3 : Fin (k0_t3_loop i).trips) : BitVec 32 :=
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  v81
def k0_off25 (i : grid0.Coords) (k0_t3 : Fin (k0_t3_loop i).trips) : Fin 3 → Nat :=
  let c0_44 : Index := 0#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v83 : Index := Scalar.indexCast v82
  let c0_45 : Index := 0#32
  ![0, v83.toNat, 0]
def k0_off26 (i : grid0.Coords) (k0_t3 : Fin (k0_t3_loop i).trips) : Fin 4 → Nat :=
  let c0_46 : Index := 0#32
  let c0_47 : Index := 0#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v86 : Index := Scalar.indexCast v82
  let c0_48 : Index := 0#32
  ![0, 0, v86.toNat, 0]
def k0_off27 (i : grid0.Coords) (k0_t3 : Fin (k0_t3_loop i).trips) : Fin 3 → Nat :=
  let c0_50 : Index := 0#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v91 : Index := Scalar.indexCast v82
  let c128_51 : Index := 128#32
  ![0, v91.toNat, 128]
def k0_off28 (i : grid0.Coords) (k0_t3 : Fin (k0_t3_loop i).trips) : Fin 4 → Nat :=
  let c0_52 : Index := 0#32
  let c1 : Index := 1#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v94 : Index := Scalar.indexCast v82
  let c0_53 : Index := 0#32
  ![0, 1, v94.toNat, 0]
def k0_off29 (i : grid0.Coords) (k0_t3 : Fin (k0_t3_loop i).trips) : Fin 3 → Nat :=
  let c0_55 : Index := 0#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v99 : Index := Scalar.indexCast v82
  let c256_56 : Index := 256#32
  ![0, v99.toNat, 256]
def k0_off30 (i : grid0.Coords) (k0_t3 : Fin (k0_t3_loop i).trips) : Fin 4 → Nat :=
  let c0_57 : Index := 0#32
  let c2 : Index := 2#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v102 : Index := Scalar.indexCast v82
  let c0_58 : Index := 0#32
  ![0, 2, v102.toNat, 0]
def k0_off31 (i : grid0.Coords) (k0_t3 : Fin (k0_t3_loop i).trips) : Fin 3 → Nat :=
  let c0_60 : Index := 0#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v107 : Index := Scalar.indexCast v82
  let c384_61 : Index := 384#32
  ![0, v107.toNat, 384]
def k0_off32 (i : grid0.Coords) (k0_t3 : Fin (k0_t3_loop i).trips) : Fin 4 → Nat :=
  let c0_62 : Index := 0#32
  let c3 : Index := 3#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v110 : Index := Scalar.indexCast v82
  let c0_63 : Index := 0#32
  ![0, 3, v110.toNat, 0]
def k0_off33 (i : grid0.Coords) (k0_t3 : Fin (k0_t3_loop i).trips) : Fin 3 → Nat :=
  let c0_66 : Index := 0#32
  let c0_67 : Index := 0#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v122 : Index := Scalar.indexCast v82
  ![0, 0, v122.toNat]
def k0_off34 (i : grid0.Coords) (k0_t3 : Fin (k0_t3_loop i).trips) : Fin 3 → Nat :=
  let c1_76 : Index := 1#32
  let c0_77 : Index := 0#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v143 : Index := Scalar.indexCast v82
  ![1, 0, v143.toNat]
def k0_off35 (i : grid0.Coords) (k0_t3 : Fin (k0_t3_loop i).trips) : Fin 3 → Nat :=
  let c2_86 : Index := 2#32
  let c0_87 : Index := 0#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v164 : Index := Scalar.indexCast v82
  ![2, 0, v164.toNat]
def k0_off36 (i : grid0.Coords) (k0_t3 : Fin (k0_t3_loop i).trips) : Fin 3 → Nat :=
  let c3_96 : Index := 3#32
  let c0_97 : Index := 0#32
  let c0_i32_23 : BitVec 32 := 0#32
  let arg2 : BitVec 32 := BitVec.ofNat 32 (i 2).val
  let c0_i32_18 : BitVec 32 := 0#32
  let v31 : BitVec 1 := Scalar.cmpi .sgt arg2 c0_i32_18
  let v32 : BitVec 32 := Scalar.extui v31
  let c0_i32_19 : BitVec 32 := 0#32
  let v33 : BitVec 1 := Scalar.cmpi .slt arg2 c0_i32_19
  let v34 : BitVec 32 := Scalar.extui v33
  let v35 : BitVec 32 := Scalar.subi v32 v34
  let c2_i32 : BitVec 32 := 2#32
  let c0_i32_20 : BitVec 32 := 0#32
  let v36 : BitVec 1 := Scalar.cmpi .sgt c2_i32 c0_i32_20
  let v37 : BitVec 32 := Scalar.extui v36
  let c0_i32_21 : BitVec 32 := 0#32
  let v38 : BitVec 1 := Scalar.cmpi .slt c2_i32 c0_i32_21
  let v39 : BitVec 32 := Scalar.extui v38
  let v40 : BitVec 32 := Scalar.subi v37 v39
  let v41 : BitVec 1 := Scalar.cmpi .ne v35 v40
  let v42 : BitVec 32 := Scalar.remsi arg2 c2_i32
  let c0_i32_22 : BitVec 32 := 0#32
  let v43 : BitVec 1 := Scalar.cmpi .ne v42 c0_i32_22
  let v44 : BitVec 1 := Scalar.andi v41 v43
  let v30 : BitVec 32 := Scalar.divsi arg2 c2_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t3
  let c2_i32_43 : BitVec 32 := 2#32
  let v80 : BitVec 32 := Scalar.muli arg10 c2_i32_43
  let c512_i32 : BitVec 32 := 512#32
  let v81 : BitVec 32 := Scalar.muli v80 c512_i32
  let v82 : BitVec 32 := v81
  let v185 : Index := Scalar.indexCast v82
  ![3, 0, v185.toNat]
def k0_cond2 (i : grid0.Coords) : BitVec 1 :=
  let arg2 : BitVec 32 := BitVec.ofNat 32 (i 2).val
  let c2_i32_27 : BitVec 32 := 2#32
  let c0_i32_28 : BitVec 32 := 0#32
  let v54 : BitVec 1 := Scalar.cmpi .eq c2_i32_27 c0_i32_28
  let c1_i32_29 : BitVec 32 := 1#32
  let v55 : BitVec 32 := Scalar.select v54 c1_i32_29 c2_i32_27
  let v56 : BitVec 32 := Scalar.remsi arg2 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  let c0_i32_33 : BitVec 32 := 0#32
  let v64 : BitVec 1 := Scalar.cmpi .eq v63 c0_i32_33
  let v65 : BitVec 32 := Scalar.extui v64
  let c0_i32_34 : BitVec 32 := 0#32
  let v66 : BitVec 1 := Scalar.cmpi .ne v65 c0_i32_34
  v66

def k0_mult4 (i : grid0.Coords) : BitVec 32 :=
  let arg2 : BitVec 32 := BitVec.ofNat 32 (i 2).val
  let c512_i32 : BitVec 32 := 512#32
  let v80 : BitVec 32 := Scalar.muli arg2 c512_i32
  v80
def k0_off37 (i : grid0.Coords) : Fin 3 → Nat :=
  let c0_43 : Index := 0#32
  let arg2 : BitVec 32 := BitVec.ofNat 32 (i 2).val
  let c512_i32 : BitVec 32 := 512#32
  let v80 : BitVec 32 := Scalar.muli arg2 c512_i32
  let v81 : BitVec 32 := v80
  let v82 : Index := Scalar.indexCast v81
  let c0_44 : Index := 0#32
  ![0, v82.toNat, 0]
def k0_off38 (i : grid0.Coords) : Fin 4 → Nat :=
  let c0_45 : Index := 0#32
  let c0_46 : Index := 0#32
  let arg2 : BitVec 32 := BitVec.ofNat 32 (i 2).val
  let c512_i32 : BitVec 32 := 512#32
  let v80 : BitVec 32 := Scalar.muli arg2 c512_i32
  let v81 : BitVec 32 := v80
  let v85 : Index := Scalar.indexCast v81
  let c0_47 : Index := 0#32
  ![0, 0, v85.toNat, 0]
def k0_off39 (i : grid0.Coords) : Fin 3 → Nat :=
  let c0_49 : Index := 0#32
  let arg2 : BitVec 32 := BitVec.ofNat 32 (i 2).val
  let c512_i32 : BitVec 32 := 512#32
  let v80 : BitVec 32 := Scalar.muli arg2 c512_i32
  let v81 : BitVec 32 := v80
  let v90 : Index := Scalar.indexCast v81
  let c128_50 : Index := 128#32
  ![0, v90.toNat, 128]
def k0_off40 (i : grid0.Coords) : Fin 4 → Nat :=
  let c0_51 : Index := 0#32
  let c1 : Index := 1#32
  let arg2 : BitVec 32 := BitVec.ofNat 32 (i 2).val
  let c512_i32 : BitVec 32 := 512#32
  let v80 : BitVec 32 := Scalar.muli arg2 c512_i32
  let v81 : BitVec 32 := v80
  let v93 : Index := Scalar.indexCast v81
  let c0_52 : Index := 0#32
  ![0, 1, v93.toNat, 0]
def k0_off41 (i : grid0.Coords) : Fin 3 → Nat :=
  let c0_54 : Index := 0#32
  let arg2 : BitVec 32 := BitVec.ofNat 32 (i 2).val
  let c512_i32 : BitVec 32 := 512#32
  let v80 : BitVec 32 := Scalar.muli arg2 c512_i32
  let v81 : BitVec 32 := v80
  let v98 : Index := Scalar.indexCast v81
  let c256_55 : Index := 256#32
  ![0, v98.toNat, 256]
def k0_off42 (i : grid0.Coords) : Fin 4 → Nat :=
  let c0_56 : Index := 0#32
  let c2 : Index := 2#32
  let arg2 : BitVec 32 := BitVec.ofNat 32 (i 2).val
  let c512_i32 : BitVec 32 := 512#32
  let v80 : BitVec 32 := Scalar.muli arg2 c512_i32
  let v81 : BitVec 32 := v80
  let v101 : Index := Scalar.indexCast v81
  let c0_57 : Index := 0#32
  ![0, 2, v101.toNat, 0]
def k0_off43 (i : grid0.Coords) : Fin 3 → Nat :=
  let c0_59 : Index := 0#32
  let arg2 : BitVec 32 := BitVec.ofNat 32 (i 2).val
  let c512_i32 : BitVec 32 := 512#32
  let v80 : BitVec 32 := Scalar.muli arg2 c512_i32
  let v81 : BitVec 32 := v80
  let v106 : Index := Scalar.indexCast v81
  let c384_60 : Index := 384#32
  ![0, v106.toNat, 384]
def k0_off44 (i : grid0.Coords) : Fin 4 → Nat :=
  let c0_61 : Index := 0#32
  let c3 : Index := 3#32
  let arg2 : BitVec 32 := BitVec.ofNat 32 (i 2).val
  let c512_i32 : BitVec 32 := 512#32
  let v80 : BitVec 32 := Scalar.muli arg2 c512_i32
  let v81 : BitVec 32 := v80
  let v109 : Index := Scalar.indexCast v81
  let c0_62 : Index := 0#32
  ![0, 3, v109.toNat, 0]
def k0_off45 (i : grid0.Coords) : Fin 3 → Nat :=
  let c0_70 : Index := 0#32
  let c0_71 : Index := 0#32
  let arg2 : BitVec 32 := BitVec.ofNat 32 (i 2).val
  let c512_i32 : BitVec 32 := 512#32
  let v80 : BitVec 32 := Scalar.muli arg2 c512_i32
  let v81 : BitVec 32 := v80
  let v134 : Index := Scalar.indexCast v81
  ![0, 0, v134.toNat]
def k0_off46 (i : grid0.Coords) : Fin 3 → Nat :=
  let c1_80 : Index := 1#32
  let c0_81 : Index := 0#32
  let arg2 : BitVec 32 := BitVec.ofNat 32 (i 2).val
  let c512_i32 : BitVec 32 := 512#32
  let v80 : BitVec 32 := Scalar.muli arg2 c512_i32
  let v81 : BitVec 32 := v80
  let v155 : Index := Scalar.indexCast v81
  ![1, 0, v155.toNat]
def k0_off47 (i : grid0.Coords) : Fin 3 → Nat :=
  let c2_90 : Index := 2#32
  let c0_91 : Index := 0#32
  let arg2 : BitVec 32 := BitVec.ofNat 32 (i 2).val
  let c512_i32 : BitVec 32 := 512#32
  let v80 : BitVec 32 := Scalar.muli arg2 c512_i32
  let v81 : BitVec 32 := v80
  let v176 : Index := Scalar.indexCast v81
  ![2, 0, v176.toNat]
def k0_off48 (i : grid0.Coords) : Fin 3 → Nat :=
  let c3_100 : Index := 3#32
  let c0_101 : Index := 0#32
  let arg2 : BitVec 32 := BitVec.ofNat 32 (i 2).val
  let c512_i32 : BitVec 32 := 512#32
  let v80 : BitVec 32 := Scalar.muli arg2 c512_i32
  let v81 : BitVec 32 := v80
  let v197 : Index := Scalar.indexCast v81
  ![3, 0, v197.toNat]
def k0_cond3 (i : grid0.Coords) : BitVec 1 :=
  let arg2 : BitVec 32 := BitVec.ofNat 32 (i 2).val
  let c2_i32_35 : BitVec 32 := 2#32
  let c0_i32_36 : BitVec 32 := 0#32
  let v67 : BitVec 1 := Scalar.cmpi .eq c2_i32_35 c0_i32_36
  let c1_i32_37 : BitVec 32 := 1#32
  let v68 : BitVec 32 := Scalar.select v67 c1_i32_37 c2_i32_35
  let v69 : BitVec 32 := Scalar.remsi arg2 v68
  let c0_i32_39 : BitVec 32 := 0#32
  let v71 : BitVec 1 := Scalar.cmpi .slt v69 c0_i32_39
  let c0_i32_40 : BitVec 32 := 0#32
  let v72 : BitVec 1 := Scalar.cmpi .slt v68 c0_i32_40
  let v73 : BitVec 1 := Scalar.xori v71 v72
  let c0_i32_38 : BitVec 32 := 0#32
  let v70 : BitVec 1 := Scalar.cmpi .ne v69 c0_i32_38
  let v74 : BitVec 1 := Scalar.andi v73 v70
  let v75 : BitVec 32 := Scalar.addi v69 v68
  let v76 : BitVec 32 := Scalar.select v74 v75 v69
  let c1_i32_41 : BitVec 32 := 1#32
  let v77 : BitVec 1 := Scalar.cmpi .eq v76 c1_i32_41
  let v78 : BitVec 32 := Scalar.extui v77
  let c0_i32_42 : BitVec 32 := 0#32
  let v79 : BitVec 1 := Scalar.cmpi .ne v78 c0_i32_42
  v79

def k0_mult5 (i : grid0.Coords) : BitVec 32 :=
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  v81
def k0_off49 (i : grid0.Coords) : Fin 3 → Nat :=
  let c0_44 : Index := 0#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v83 : Index := Scalar.indexCast v82
  let c0_45 : Index := 0#32
  ![0, v83.toNat, 0]
def k0_off50 (i : grid0.Coords) : Fin 4 → Nat :=
  let c0_46 : Index := 0#32
  let c0_47 : Index := 0#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v86 : Index := Scalar.indexCast v82
  let c0_48 : Index := 0#32
  ![0, 0, v86.toNat, 0]
def k0_off51 (i : grid0.Coords) : Fin 3 → Nat :=
  let c0_50 : Index := 0#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v91 : Index := Scalar.indexCast v82
  let c128_51 : Index := 128#32
  ![0, v91.toNat, 128]
def k0_off52 (i : grid0.Coords) : Fin 4 → Nat :=
  let c0_52 : Index := 0#32
  let c1 : Index := 1#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v94 : Index := Scalar.indexCast v82
  let c0_53 : Index := 0#32
  ![0, 1, v94.toNat, 0]
def k0_off53 (i : grid0.Coords) : Fin 3 → Nat :=
  let c0_55 : Index := 0#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v99 : Index := Scalar.indexCast v82
  let c256_56 : Index := 256#32
  ![0, v99.toNat, 256]
def k0_off54 (i : grid0.Coords) : Fin 4 → Nat :=
  let c0_57 : Index := 0#32
  let c2 : Index := 2#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v102 : Index := Scalar.indexCast v82
  let c0_58 : Index := 0#32
  ![0, 2, v102.toNat, 0]
def k0_off55 (i : grid0.Coords) : Fin 3 → Nat :=
  let c0_60 : Index := 0#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v107 : Index := Scalar.indexCast v82
  let c384_61 : Index := 384#32
  ![0, v107.toNat, 384]
def k0_off56 (i : grid0.Coords) : Fin 4 → Nat :=
  let c0_62 : Index := 0#32
  let c3 : Index := 3#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v110 : Index := Scalar.indexCast v82
  let c0_63 : Index := 0#32
  ![0, 3, v110.toNat, 0]
def k0_off57 (i : grid0.Coords) : Fin 3 → Nat :=
  let c0_71 : Index := 0#32
  let c0_72 : Index := 0#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v135 : Index := Scalar.indexCast v82
  ![0, 0, v135.toNat]
def k0_off58 (i : grid0.Coords) : Fin 3 → Nat :=
  let c1_81 : Index := 1#32
  let c0_82 : Index := 0#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v156 : Index := Scalar.indexCast v82
  ![1, 0, v156.toNat]
def k0_off59 (i : grid0.Coords) : Fin 3 → Nat :=
  let c2_91 : Index := 2#32
  let c0_92 : Index := 0#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v177 : Index := Scalar.indexCast v82
  ![2, 0, v177.toNat]
def k0_off60 (i : grid0.Coords) : Fin 3 → Nat :=
  let c3_101 : Index := 3#32
  let c0_102 : Index := 0#32
  let arg2 : BitVec 32 := BitVec.ofNat 32 (i 2).val
  let c1_i32_43 : BitVec 32 := 1#32
  let v80 : BitVec 32 := Scalar.subi arg2 c1_i32_43
  let c512_i32 : BitVec 32 := 512#32
  let v81 : BitVec 32 := Scalar.muli v80 c512_i32
  let v82 : BitVec 32 := v81
  let v198 : Index := Scalar.indexCast v82
  ![3, 0, v198.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x4x8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S2x8192x6144 : Shape := ⟨3, ![2, 8192, 6144]⟩
abbrev S2x8192x8 : Shape := ⟨3, ![2, 8192, 8]⟩
abbrev S2x8192x1024 : Shape := ⟨3, ![2, 8192, 1024]⟩
abbrev S2x8192x8x128 : Shape := ⟨4, ![2, 8192, 8, 128]⟩
abbrev S2x8x8192x128 : Shape := ⟨4, ![2, 8, 8192, 128]⟩
abbrev S2x8x8192 : Shape := ⟨3, ![2, 8, 8192]⟩
abbrev S2x8x8192x8192 : Shape := ⟨4, ![2, 8, 8192, 8192]⟩
abbrev S_ : Shape := ⟨0, ![]⟩
abbrev S2x8x8192x1 : Shape := ⟨4, ![2, 8, 8192, 1]⟩
abbrev S2x8x1x8192 : Shape := ⟨4, ![2, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x6144, .f32⟩
  | .hbm, ⟨1, _⟩ => ⟨S2x8192x8, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S2x8192x8x128, .f32⟩
  | .hbm, ⟨6, _⟩ => ⟨S2x8x8192x128, .f32⟩
  | .hbm, ⟨7, _⟩ => ⟨S2x8192x8x128, .f32⟩
  | .hbm, ⟨8, _⟩ => ⟨S2x8x8192x128, .f32⟩
  | .hbm, ⟨9, _⟩ => ⟨S2x8192x8x128, .f32⟩
  | .hbm, ⟨10, _⟩ => ⟨S2x8x8192x128, .f32⟩
  | .hbm, ⟨11, _⟩ => ⟨S2x8x8192, .f32⟩
  | .hbm, ⟨12, _⟩ => ⟨S2x8x8192x8192, .f32⟩
  | .hbm, ⟨13, _⟩ => ⟨S_, .f32⟩
  | .hbm, ⟨14, _⟩ => ⟨S2x8x8192x8192, .f32⟩
  | .hbm, ⟨15, _⟩ => ⟨S2x8x8192x8192, .f32⟩
  | .hbm, ⟨16, _⟩ => ⟨S2x8x8192x1, .f32⟩
  | .hbm, ⟨17, _⟩ => ⟨S2x8x8192x8192, .f32⟩
  | .hbm, ⟨18, _⟩ => ⟨S2x8x8192x8192, .f32⟩
  | .hbm, ⟨19, _⟩ => ⟨S2x8x1x8192, .f32⟩
  | .hbm, ⟨20, _⟩ => ⟨S2x8x8192x8192, .f32⟩
  | .hbm, ⟨21, _⟩ => ⟨S2x8x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S2x8x8192x8192, .i1⟩
  | .hbm, ⟨31, _⟩ => ⟨S2x8x8192x8192, .f32⟩
  | .hbm, ⟨32, _⟩ => ⟨S2x8x8192x8192, .f32⟩
  | .hbm, ⟨33, _⟩ => ⟨S_, .f32⟩
  | .hbm, ⟨34, _⟩ => ⟨S2x8x8192, .f32⟩
  | .hbm, ⟨35, _⟩ => ⟨S_, .f32⟩
  | .hbm, ⟨36, _⟩ => ⟨S2x8x8192, .f32⟩
  | .hbm, ⟨37, _⟩ => ⟨S2x8x8192, .f32⟩
  | .hbm, ⟨38, _⟩ => ⟨S2x8x8192x1, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S_, .f32⟩
  | .hbm, ⟨43, _⟩ => ⟨S2x8x8192, .f32⟩
  | .hbm, ⟨44, _⟩ => ⟨S2x8x8192x1, .f32⟩
  | .hbm, ⟨45, _⟩ => ⟨S2x8x8192x8192, .f32⟩
  | .hbm, ⟨46, _⟩ => ⟨S2x8x8192x8192, .f32⟩
  | .hbm, ⟨47, _⟩ => ⟨S2x8x8192x128, .f32⟩
  | .hbm, ⟨48, _⟩ => ⟨S2x8192x8x128, .f32⟩
  | .hbm, ⟨49, _⟩ => ⟨S2x8192x1024, .f32⟩
  | .hbm, ⟨50, _⟩ => ⟨S2x8192x1024, .bf16⟩
  | _, _ => ⟨S2x8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Proof.MlpBlock.lean ====
/-
  What one grid point of the feed-forward kernel leaves behind, as a function of what it reads: the two scratch
  buffers (the block of rows in the short format, and the running product) and the result block.
-/
module

public import proofs.«01_k».proof.Proof.Gen.MlpIdeal.Value
public import Idealize.ShloMosaic.Lib.Pointwise
public import Idealize.ShloMosaic.Lib.Pipeline.ValueKit

@[expose] public section

set_option maxRecDepth 16384

noncomputable section

namespace Cert.MlpValue

open Idealize.ShloMosaic Idealize.ShloMosaic.TcCoe Idealize.ShloMosaic.Tactic Idealize.SL.Sem
open Cert.MlpIdeal Cert.MlpIdeal.Gen

variable (m : (ℓ : Loc nD τ sig) → Buf (Elt Ideal) ℓ)

theorem zero2 : (![0, 0] : Fin 2 → Nat) = fun _ => 0 := funext fun a => by fin_cases a <;> rfl

/-- The first point of a row block stores the block of `x`, and the first product over the cleared accumulator. -/
theorem first_point (c : Dev nD) (t : Fin cfg0.N) (h0 : t.val % 8 = 0) (h1 : ¬t.val % 8 = 7) :
    (outsAt0 m c t.val t.isLt).2 = (k0_pay1 (iblk m c 0 t),
      k0_pay3 (k0_pay1 (iblk m c 0 t)) (iblk m c 1 t) (k0_pay2 (F := Ideal)) (iblk m c 2 t)) := by
  rw [outsAt0_A m c t h0 h1]
  dsimp only
  refine Prod.ext ?_ ?_
  · dsimp only
    unfold sout0_A_0
    rw [View.read_writes_eq_canon _ _ _ (scover0_A_0 c _ _ _ _ _ _ _ _ _ _ _ _ _ _ _ _ _ _ _ _ _ _ _ _)]
    unfold kernelRun0_A
    dsimp only
    sl_unfold_words
    rw [View.canon_unit_zero zero2]
    simp only [View.readAt_eq_ld, (hs0_0 t).read_unread, View.ld_unit_zero (S := S512x2048) zero2, View.ld_unit_zero (S := S2048x1024) zero2,
      View.ld_unit_zero (S := S1024x2048) zero2, View.ld_unit_zero (S := S1x2048) zero2]
  · dsimp only
    unfold sout0_A_1
    rw [View.read_writes_eq_canon _ _ _ (scover0_A_1 c _ _ _ _ _ _ _ _ _ _ _ _ _ _ _ _ _ _ _ _ _ _ _ _)]
    unfold kernelRun0_A
    dsimp only
    sl_unfold_words
    rw [View.canon_cons_unit_zero (S := S512x2048) zero2]
    simp only [View.readAt_eq_ld, (hs0_0 t).read_unread, (hs0_1 t).read_unread, (hs0_2 t).read_unread,
      View.ld_unit_zero (S := S512x2048) zero2, View.ld_unit_zero (S := S2048x1024) zero2,
      View.ld_unit_zero (S := S1024x2048) zero2, View.ld_unit_zero (S := S1x2048) zero2, View.readCov_unit_zero (S := S512x2048) _ zero2]

/-- A later point keeps the stored block of `x` and adds the next product to the accumulator. -/
theorem later_point (c : Dev nD) (t : Fin cfg0.N) (h0 : ¬t.val % 8 = 0) :
    (outsAt0 m c t.val t.isLt).2 = ((outsAt0 m c (t.val - 1) (by omega)).2.1,
      k0_pay3 (outsAt0 m c (t.val - 1) (by omega)).2.1 (iblk m c 1 t) (outsAt0 m c (t.val - 1) (by omega)).2.2 (iblk m c 2 t)) := by
  by_cases h1 : t.val % 8 = 7
  · rw [outsAt0_C m c t h0 h1]
    dsimp only
    refine Prod.ext rfl ?_
    dsimp only
    unfold sout0_C_1
    rw [View.read_writes_eq_canon _ _ _ (scover0_C_1 c _ _ _ _ _ _ _ _ _ _ _ _ _ _ _ _ _ _ _ _ _ _ _ _ _ _)]
    unfold kernelRun0_C
    dsimp only
    sl_unfold_words
    rw [View.canon_unit_zero zero2]
    simp only [View.readAt_eq_ld, (hs0_1 t).read_unread, (hs0_2 t).read_unread, (Memref.isWhole_whole _).read_unread, View.ld_unit_zero (S := S512x2048) zero2, View.ld_unit_zero (S := S2048x1024) zero2,
      View.ld_unit_zero (S := S1024x2048) zero2, View.ld_unit_zero (S := S1x2048) zero2]
  · rw [outsAt0_B m c t h0 h1]
    dsimp only
    refine Prod.ext rfl ?_
    dsimp only
    unfold sout0_B_1
    rw [View.read_writes_eq_canon _ _ _ (scover0_B_1 c _ _ _ _ _ _ _ _ _ _ _ _ _ _ _ _ _ _ _ _ _ _ _ _ _ _)]
    unfold kernelRun0_B
    dsimp only
    sl_unfold_words
    rw [View.canon_unit_zero zero2]
    simp only [View.readAt_eq_ld, (hs0_1 t).read_unread, (hs0_2 t).read_unread, (Memref.isWhole_whole _).read_unread, View.ld_unit_zero (S := S512x2048) zero2, View.ld_unit_zero (S := S2048x1024) zero2,
      View.ld_unit_zero (S := S1024x2048) zero2, View.ld_unit_zero (S := S1x2048) zero2]

/-- The last point of a row block writes the normalised sum of the scaled block of `x` and the finished accumulator. -/
theorem last_point (c : Dev nD) (t : Fin cfg0.N) (h1 : t.val % 8 = 7) :
    (outsAt0 m c t.val t.isLt).1
      = k0_pay4 (iblk m c 0 t) (outsAt0 m c t.val t.isLt).2.2 (iblk m c 3 t) (iblk m c 4 t) := by
  have h0 : ¬t.val % 8 = 0 := by omega
  rw [later_point m c t h0]
  rw [outsAt0_C m c t h0 h1]
  dsimp only
  unfold out0_C_5
  rw [View.read_writes_eq_canon _ _ _ (cover0_C_5 c _ _ _ _ _ _ _ _ _ _ _ _ _ _ _ _ _ _ _ _ _ _ _ _ _ _)]
  unfold kernelRun0_C
  dsimp only
  sl_unfold_words
  rw [View.canon_unit_zero zero2]
  simp only [View.readAt_eq_ld, (hs0_0 t).read_unread, (hs0_1 t).read_unread, (hs0_2 t).read_unread, (hs0_3 t).read_unread,
    (hs0_4 t).read_unread, (Memref.isWhole_whole _).read_unread, View.ld_unit_zero (S := S512x2048) zero2, View.ld_unit_zero (S := S2048x1024) zero2,
      View.ld_unit_zero (S := S1024x2048) zero2, View.ld_unit_zero (S := S1x2048) zero2, View.readCov_unit_zero (S := S512x2048) _ zero2]

end Cert.MlpValue

end
-- ==== Proof.Norm.lean ====
/-
  The layer normalisation of a row of 2048 places, as both halves of a layer use it.
-/
module

public import Idealize.ShloMosaic.Lib.Pointwise

@[expose] public section

noncomputable section

namespace Cert.Norm

open Idealize.ShloMosaic

/-- The layer normalisation of a row `y`, at place `q`, with scale `g` and shift `b`. -/
def normRow (y : Fin 2048 → EReal) (g b : EReal) (q : Fin 2048) : EReal :=
  (y q - Ideal.div (∑ k, y k) (Ideal.ofBits .f32 0x45000000#32))
      * Ideal.rsqrt (Ideal.div (∑ k, (y k - Ideal.div (∑ k, y k) (Ideal.ofBits .f32 0x45000000#32))
          * (y k - Ideal.div (∑ k, y k) (Ideal.ofBits .f32 0x45000000#32))) (Ideal.ofBits .f32 0x45000000#32)
        + Ideal.ofBits .f32 0x3727C5AC#32) * g + b

end Cert.Norm

end
-- ==== Proof.MlpRef.lean ====
/-
  The feed-forward half of the layer in plain sums: the hidden value of a row, the row before normalisation;
  and that the reference computes exactly these.
-/
module

public import proofs.«01_k».proof.Proof.Gen.MlpRefIdeal.Read
public import proofs.«01_k».proof.Proof.Norm
public import Idealize.ShloMosaic.Lib.Pointwise

@[expose] public section

set_option maxRecDepth 16384

noncomputable section

namespace Cert.MlpRefValue

open Idealize.ShloMosaic Idealize.ShloMosaic.TcCoe Idealize.SL.Sem
open Cert.Norm Cert.MlpRefIdeal Cert.MlpRefIdeal.Gen Cert.MlpRefIdeal.Read

/-- The square of the positive part. -/
def relu2 (z : EReal) : EReal := max z 0 * max z 0

/-- Row `r` before normalisation: `√2 · x + relu(x w1)² w2`. -/
def sumRow (x : FVec Ideal S16384x2048 .f32) (w1 : FVec Ideal S2048x8192 .f32) (w2 : FVec Ideal S8192x2048 .f32)
    (r : Fin 16384) (q : Fin 2048) : EReal :=
  Ideal.ofBits .f32 0x3FB504F3#32 * x (ix2 r q)
    + ∑ k : Fin 8192, relu2 (∑ d : Fin 2048, x (ix2 r d) * w1 (ix2 d k)) * w2 (ix2 k q)

theorem ref_sum (x : FVec Ideal S16384x2048 .f32) (w1 : FVec Ideal S2048x8192 .f32) (w2 : FVec Ideal S8192x2048 .f32)
    (r : Fin 16384) (q : Fin 2048) :
    val_main_v6 (F := Ideal) x w1 w2 (ix2 r q) = sumRow x w1 w2 r q := by
  pointwise [val_main_v6, val_main_v5, val_main_v4, val_main_cst, val_main_v3, val_main_v2, val_main_v1, val_main_call0_v0,
    val_main_call0_cst, val_main_v0, sumRow, relu2]

/-- The reference's result: the normalised row. -/
theorem ref_norm (x : FVec Ideal S16384x2048 .f32) (w1 : FVec Ideal S2048x8192 .f32) (w2 : FVec Ideal S8192x2048 .f32)
    (g b : FVec Ideal S2048 .f32) (r : Fin 16384) (q : Fin 2048) :
    val_main_v30 (F := Ideal) x w1 w2 g b (ix2 r q)
      = normRow (sumRow x w1 w2 r) (g (ix1 q)) (b (ix1 q)) q := by
  have h : ∀ q, val_main_v6 (F := Ideal) x w1 w2 (ix2 r q) = sumRow x w1 w2 r q := ref_sum x w1 w2 r
  unfold normRow
  simp only [← h]
  pointwise [val_main_v30, val_main_v29, val_main_v28, val_main_v27, val_main_v26, val_main_v25, val_main_v24, val_main_v23,
    val_main_v22, val_main_v21, val_main_v20, val_main_cst_4, val_main_v19, val_main_v18, val_main_v17, val_main_v16,
    val_main_cst_3, val_main_v15, val_main_v14, val_main_cst_2, val_main_v13, val_main_v12, val_main_v11, val_main_v10,
    val_main_v9, val_main_cst_1, val_main_v8, val_main_v7, val_main_cst_0, zero_add]

end Cert.MlpRefValue

end
-- ==== Proof.MlpPay.lean ====
/-
  The arithmetic of one grid point of the feed-forward kernel, element by element: the stored block of rows, the
  cleared accumulator, one step of the accumulation, and the normalisation of the finished rows.
-/
module

public import proofs.«01_k».proof.Proof.Gen.MlpIdeal.Skeleton
public import proofs.«01_k».proof.Proof.MlpRef
public import Idealize.ShloMosaic.Lib.Pointwise

@[expose] public section

set_option maxRecDepth 16384

noncomputable section

namespace Cert.MlpPay

open Idealize.ShloMosaic Idealize.ShloMosaic.TcCoe Idealize.SL.Sem
open Cert.MlpIdeal Cert.MlpIdeal.Gen Cert.MlpRefValue Cert.Norm

/-- The stored block is the block read: the change of format is the identity on extended reals. -/
theorem stored (x : FVec Ideal S512x2048 .f32) : k0_pay1 (F := Ideal) x = x := by
  funext j
  idx_vars j
  pointwise [k0_pay1]

/-- The cleared accumulator is zero. -/
theorem cleared (r : Fin 512) (q : Fin 2048) : k0_pay2 (F := Ideal) (ix2 r q) = 0 := by
  pointwise [k0_pay2]

/-- One step adds the product over one block of 1024 hidden places. -/
theorem step (x : FVec Ideal S512x2048 .bf16) (w1 : FVec Ideal S2048x1024 .bf16) (acc : FVec Ideal S512x2048 .f32)
    (w2 : FVec Ideal S1024x2048 .bf16) (r : Fin 512) (q : Fin 2048) :
    k0_pay3 (F := Ideal) x w1 acc w2 (ix2 r q)
      = acc (ix2 r q) + ∑ k : Fin 1024, relu2 (∑ d : Fin 2048, x (ix2 r d) * w1 (ix2 d k)) * w2 (ix2 k q) := by
  pointwise [k0_pay3, relu2, zero_add]

/-- The last step normalises `√2 · x + acc` row by row. -/
theorem normal (x acc : FVec Ideal S512x2048 .f32) (g b : FVec Ideal S1x2048 .f32) (r : Fin 512) (q : Fin 2048) :
    k0_pay4 (F := Ideal) x acc g b (ix2 r q)
      = normRow (fun k => Ideal.ofBits .f32 0x3FB504F3#32 * x (ix2 r k) + acc (ix2 r k)) (g (ix2 0 q)) (b (ix2 0 q)) q := by
  pointwise [k0_pay4, normRow]

end Cert.MlpPay

end
-- ==== Proof.MlpAcc.lean ====
/-
  What the feed-forward kernel's grid computes: the blocks read at a point are places of the argument arrays, and
  after the last point of a row block the accumulator holds the sum over all 8192 hidden places.
-/
module

public import proofs.«01_k».proof.Proof.MlpBlock
public import proofs.«01_k».proof.Proof.MlpPay

@[expose] public section

set_option maxRecDepth 16384

noncomputable section

namespace Cert.MlpValue

open Idealize.ShloMosaic Idealize.ShloMosaic.TcCoe Idealize.ShloMosaic.Tactic Idealize.SL.Sem
open Cert.MlpIdeal Cert.MlpIdeal.Gen Cert.MlpRefValue Cert.Norm

variable (m : (ℓ : Loc nD τ sig) → Buf (Elt Ideal) ℓ)

/-- The argument arrays, as arrays of extended reals. -/
abbrev argX (c : Dev nD) : FVec Ideal S16384x2048 .f32 := m ((c : Thread nD τ).loc main_arg0)
abbrev argA (c : Dev nD) : FVec Ideal S2048x8192 .f32 := m ((c : Thread nD τ).loc main_arg1)
abbrev argB (c : Dev nD) : FVec Ideal S8192x2048 .f32 := m ((c : Thread nD τ).loc main_arg2)
abbrev argG (c : Dev nD) : FVec Ideal S2048 .f32 := m ((c : Thread nD τ).loc main_arg3)
abbrev argS (c : Dev nD) : FVec Ideal S2048 .f32 := m ((c : Thread nD τ).loc main_arg4)

/-- Where each window's block lies at point `t`: rows by `t / 8`, hidden places by `t % 8`. -/
theorem idx : ∀ t : Fin cfg0.N, win0_0.index t = ![t.val / 8, 0] ∧ win0_1.index t = ![0, t.val % 8]
    ∧ win0_2.index t = ![t.val % 8, 0] ∧ win0_3.index t = ![0, 0] ∧ win0_4.index t = ![0, 0] ∧ win0_5.index t = ![t.val / 8, 0] :=
  (by decide +kernel : ∀ t : Fin grid0.N, _)

/-- A row of the `t`-th block is a row of the array, and a hidden place of the block a hidden place of the whole. -/
def row (t : Fin cfg0.N) (r : Fin 512) : Fin 16384 := ⟨512 * (t.val / 8) + r.val, by
  have := t.isLt; have hN : cfg0.N = 256 := N_0; have := r.isLt; omega⟩
def hid (t : Fin cfg0.N) (k : Fin 1024) : Fin 8192 := ⟨1024 * (t.val % 8) + k.val, by have := k.isLt; omega⟩

theorem blk_x (c : Dev nD) (t : Fin cfg0.N) (r : Fin 512) (d : Fin 2048) :
    (iblk m c 0 t : FVec Ideal S512x2048 .f32) (ix2 r d) = argX m c (ix2 (row t r) d) := by
  blk_point [iblk, V, idx t]
  simp only [row]; omega

theorem blk_w1 (c : Dev nD) (t : Fin cfg0.N) (d : Fin 2048) (k : Fin 1024) :
    (iblk m c 1 t : FVec Ideal S2048x1024 .bf16) (ix2 d k) = argA m c (ix2 d (hid t k)) := by
  blk_point [iblk, V, idx t]
  simp only [hid]; omega

theorem blk_w2 (c : Dev nD) (t : Fin cfg0.N) (k : Fin 1024) (q : Fin 2048) :
    (iblk m c 2 t : FVec Ideal S1024x2048 .bf16) (ix2 k q) = argB m c (ix2 (hid t k) q) := by
  blk_point [iblk, V, idx t]
  simp only [hid]; omega

theorem blk_g (c : Dev nD) (t : Fin cfg0.N) (q : Fin 2048) :
    (iblk m c 3 t : FVec Ideal S1x2048 .f32) (ix2 0 q) = argG m c (ix1 q) := by
  blk_point [iblk, V, idx t]

theorem blk_b (c : Dev nD) (t : Fin cfg0.N) (q : Fin 2048) :
    (iblk m c 4 t : FVec Ideal S1x2048 .f32) (ix2 0 q) = argS m c (ix1 q) := by
  blk_point [iblk, V, idx t]

/-- The stored block is the block of `x` of the point's own rows, at every point. -/
theorem held (c : Dev nD) : ∀ (n : Nat) (h : n < cfg0.N) (r : Fin 512) (d : Fin 2048),
    ((outsAt0 m c n h).2.1 : FVec Ideal S512x2048 .bf16) (ix2 r d) = argX m c (ix2 (row ⟨n, h⟩ r) d) := by
  have base : ∀ (t : Fin cfg0.N), t.val % 8 = 0 → ∀ (r : Fin 512) (d : Fin 2048),
      ((outsAt0 m c t.val t.isLt).2.1 : FVec Ideal S512x2048 .bf16) (ix2 r d) = argX m c (ix2 (row t r) d) := by
    intro t h0 r d
    rw [first_point m c t h0 (by omega)]
    dsimp only
    rw [MlpPay.stored]
    exact blk_x m c t r d
  intro n
  induction n with
  | zero => exact fun h r d => base ⟨0, h⟩ rfl r d
  | succ n ih =>
    intro h r d
    by_cases h0 : (n + 1) % 8 = 0
    · exact base ⟨n + 1, h⟩ h0 r d
    · rw [later_point m c ⟨n + 1, h⟩ h0]
      refine (ih (Nat.lt_of_succ_lt h) r d).trans ?_
      congr 2
      refine Fin.ext ?_
      simp only [row]
      omega

/-- What a point adds to the accumulator: the sum over its 1024 hidden places. -/
def part (c : Dev nD) (t : Fin cfg0.N) (r : Fin 512) (q : Fin 2048) : EReal :=
  ∑ k : Fin 1024, relu2 (∑ d : Fin 2048, argX m c (ix2 (row t r) d) * argA m c (ix2 d (hid t k))) * argB m c (ix2 (hid t k) q)

/-- The accumulator after a point, at a place. -/
def acc (c : Dev nD) (n : Nat) (h : n < cfg0.N) (i : Fin 512 × Fin 2048) : EReal :=
  ((outsAt0 m c n h).2.2 : FVec Ideal S512x2048 .f32) (ix2 i.1 i.2)

theorem acc_first (c : Dev nD) (t : Fin cfg0.N) (h0 : t.val % 8 = 0) (i : Fin 512 × Fin 2048) :
    acc m c t.val t.isLt i = 0 + part m c t i.1 i.2 := by
  unfold acc part
  rw [first_point m c t h0 (by omega)]
  dsimp only
  rw [MlpPay.step, MlpPay.cleared, MlpPay.stored]
  simp only [blk_x m c t, blk_w1 m c t, blk_w2 m c t]

theorem acc_later (c : Dev nD) (t : Fin cfg0.N) (h0 : ¬t.val % 8 = 0) (i : Fin 512 × Fin 2048) :
    acc m c t.val t.isLt i = acc m c (t.val - 1) (Nat.lt_of_le_of_lt (Nat.sub_le _ _) t.isLt) i + part m c t i.1 i.2 := by
  unfold acc part
  rw [later_point m c t h0]
  dsimp only
  rw [MlpPay.step]
  have hr : ∀ (r : Fin 512), row ⟨t.val - 1, Nat.lt_of_le_of_lt (Nat.sub_le _ _) t.isLt⟩ r = row t r := fun r =>
    Fin.ext (by simp only [row]; omega)
  simp only [held m c, hr, blk_w1 m c t, blk_w2 m c t]

/-- After the last point of a row block the accumulator holds the whole product, over all 8192 hidden places. -/
theorem acc_last (c : Dev nD) (t : Fin cfg0.N) (h1 : t.val % 8 = 7) (r : Fin 512) (q : Fin 2048) :
    acc m c t.val t.isLt (r, q) = ∑ k : Fin 8192,
      relu2 (∑ d : Fin 2048, argX m c (ix2 (row t r) d) * argA m c (ix2 d k)) * argB m c (ix2 k q) := by
  rw [Pipeline.eq_sum_fin_of_reset_step_apply_of_flush (acc m c) 8 (fun _ => 0) (fun t i => part m c t i.1 i.2)
    (acc_first m c) (acc_later m c) t h1 (r, q), zero_add]
  refine Fin.sum_mul_add_congr fun s k hl => ?_
  have hs := s.isLt
  have e1 : row ⟨8 * (t.val / 8) + s.val, Pipeline.run_point_lt_of_flush t h1 s⟩ r = row t r :=
    Fin.ext (by simp only [row]; omega)
  have e2 : hid ⟨8 * (t.val / 8) + s.val, Pipeline.run_point_lt_of_flush t h1 s⟩ k = ⟨s.val * 1024 + k.val, hl⟩ :=
    Fin.ext (by simp only [hid]; omega)
  simp only [e1, e2]

/-- What the last point of a row block writes back: the normalised rows. -/
theorem written (c : Dev nD) (t : Fin cfg0.N) (h1 : t.val % 8 = 7) (r : Fin 512) (q : Fin 2048) :
    ((outsAt0 m c t.val t.isLt).1 : FVec Ideal S512x2048 .f32) (ix2 r q)
      = normRow (sumRow (argX m c) (argA m c) (argB m c) (row t r)) (argG m c (ix1 q)) (argS m c (ix1 q)) q := by
  rw [last_point m c t h1, MlpPay.normal, blk_g m c t, blk_b m c t]
  congr 1
  funext k
  rw [blk_x m c t]
  exact congrArg _ (acc_last m c t h1 r k)

end Cert.MlpValue

end
-- ==== Proof.MlpEq.lean ====
/-
  The feed-forward kernel and its reference leave the same array.
-/
module

public import proofs.«01_k».proof.Defs
public import proofs.«01_k».proof.Proof.MlpAcc
public import proofs.«01_k».proof.Proof.Gen.MlpRefIdeal.Run

@[expose] public section

set_option maxRecDepth 16384

noncomputable section

namespace Cert.MlpValue

open Idealize.ShloMosaic Idealize.ShloMosaic.TcCoe Idealize.ShloMosaic.Tactic Idealize.SL.Sem
open Cert.MlpIdeal Cert.MlpIdeal.Gen Cert.MlpRefValue Cert.Norm

/-- The result array after the run is the reference's composed value of the argument arrays. -/
theorem result_eq (m : (ℓ : Loc nD τ sig) → Buf (Elt Ideal) ℓ) (c : Dev nD) :
    (dats m 0 c).arrAt 5 cfg0.N
      = Cert.MlpRefIdeal.Read.val_main_v30 (F := Ideal) (argX m c) (argA m c) (argB m c) (argG m c) (argS m c) := by
  refine (dats m 0 c).arrAt_eq_of_covers 5 _ (by decide +kernel) fun t hf y => ?_
  have h1 : t.val % 8 = 7 := (flush0_5 t).mp hf
  blk_simp
  rw [after0_5]
  obtain ⟨r, q, rfl⟩ : ∃ (r : Fin 512) (q : Fin 2048), y = ix2 r q :=
    ⟨y 0, y 1, by funext a; fin_cases a <;> rfl⟩
  refine (written m c t h1 r q).trans ?_
  refine (ref_norm _ _ _ _ _ (row t r) q).symm.trans ?_
  refine congrArg _ ?_
  blk_ext [idx t]
  simp only [row]; omega

/-- The kernel's result over the extended reals is the reference's, on equal arguments. -/
theorem algebraic_Mlp : Cert.algebraic_MlpIdeal_MlpRefIdeal := by
  intro m g m' g' _ hagree
  refine ⟨fun c => (dats m 0 c).arrAt 5 cfg0.N, Cert.MlpIdeal.Value.run_blocks m g, ?_⟩
  refine (θ_run _ _ _).mono (fun r h c => ⟨?_, (h c).2⟩) (Cert.MlpRefIdeal.Value.run m' g')
  refine (h c).1.trans ?_
  rw [Cert.MlpRefIdeal.Read.val_main_v30_eq, (hagree c).1, (hagree c).2.1, (hagree c).2.2.1, (hagree c).2.2.2.1, (hagree c).2.2.2.2]
  exact (result_eq m c).symm

end Cert.MlpValue

end
-- ==== Proof.FoxIdealExit.lean ====
module

public import proofs.«01_k».proof.Proof.Gen.FoxIdeal.Frame
public import proofs.«01_k».proof.Proof.Gen.FoxIdeal.Loops
public import proofs.«01_k».proof.Proof.Gen.FoxIdeal.Skeleton

@[expose] public section

set_option maxRecDepth 16384

/-! The loop that fills the transposed values at the first query block of a group: what it leaves does
not depend on what the buffer held before. -/

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the branch that fills the transposed values: the query block is the group's first. -/
abbrev first (i : grid0.Coords) : Prop := k0_cond1 i = 1#1
/-- The condition of the branch that finishes with 512 keys. -/
abbrev evenBlock (i : grid0.Coords) : Prop := k0_cond2 i = 1#1
/-- The condition of the branch that finishes with 1024 keys. -/
abbrev oddBlock (i : grid0.Coords) : Prop := k0_cond3 i = 1#1

/-- The scratch operands as memrefs. -/
abbrev vtM : Memref sig .tc .vmem S4x144x8192 .bf16 := Memref.whole cc0_scratch0
abbrev accM : Memref sig .tc .vmem S4x144x512 .f32 := Memref.whole cc0_scratch1

section
variable (c : Dev nD) (i : grid0.Coords) (arg3 : Memref sig .tc .vmem S1x512x512 .bf16) (harg3 : arg3.IsWhole)
  (arg4 : Memref sig .tc .vmem S1x8192x512 .bf16) (harg4 : arg4.IsWhole)
  (arg5 : Memref sig .tc .vmem S1x8192x512 .bf16) (harg5 : arg5.IsWhole)
  (arg6 : Memref sig .tc .vmem S1x4x8192x128 .bf16) (harg6 : arg6.IsWhole)
  (arg7 : Memref sig .tc .vmem S1x512x512 .bf16) (harg7 : arg7.IsWhole)
  (arg8 : Memref sig .tc .vmem S4x144x8192 .bf16) (harg8 : arg8.IsWhole)
  (arg9 : Memref sig .tc .vmem S4x144x512 .f32) (harg9 : arg9.IsWhole)

/-- The sixteen trips' pieces cover the transposed values. -/
theorem vt_cover (𝒱 : Variants) (bd : Option 𝒱.V) (h1 : first i) (X : BufTy.Contents (Elt F) arg5.view.ty) (y : S4x144x8192.Idx) :
    ∃ pc ∈ pb_k0_t1 (F := F) 𝒱 c bd i arg3 harg3 arg4 harg4 arg5 harg5 arg6 harg6 arg7 harg7 arg8 harg8 arg9 harg9 h1 X k0_t1_loop.trips, y ∈ pc.1.set :=
  View.cover_of_tiledBy _ ![1, 16, 512] (by sl_kernel_rfl) y

/-- What the filling loop leaves: its pieces read back. -/
def vtOf (h1 : first i) (x2 : Vec F S1x8192x512 .bf16) : Vec F S4x144x8192 .bf16 :=
  vtM.view.read (Elt F) (vtM.view.writes (Elt F) vtM.view.junk
    (pb_k0_t1 (F := F) Variants.none c none i arg3 harg3 arg4 harg4 arg5 harg5 arg6 harg6 arg7 harg7 arg8 harg8 arg9 harg9 h1 (harg5.unread x2) k0_t1_loop.trips))

/-- After the filling loop the transposed values are at contents that do not name what they held before. -/
instance vtExit (𝒱 : Variants) (bd : Option 𝒱.V) (E : Set ℕ) (h1 : first i) (X : BufTy.Contents (Elt F) arg5.view.ty)
    (G : BufTy.Contents (Elt F) arg8.view.ty) :
    LoopExit (loopInv_k0_t1 (F := F) 𝒱 c bd E i arg3 harg3 arg4 harg4 arg5 harg5 arg6 harg6 arg7 harg7 arg8 harg8 arg9 harg9 h1 X G) where
  post _ := iprop((arg5.view.loc (c : Thread nD τ) ↦[arg5.view.set]{fullShare} X)
    ∗ (arg8.view.loc (c : Thread nD τ) ↦[arg8.view.set]{fullShare}
        harg8.unread (vtM.view.read (Elt F) (vtM.view.writes (Elt F) vtM.view.junk
          (pb_k0_t1 (F := F) 𝒱 c bd i arg3 harg3 arg4 harg4 arg5 harg5 arg6 harg6 arg7 harg7 arg8 harg8 arg9 harg9 h1 X k0_t1_loop.trips)))))
  exit u := by
    show inv_k0_t1 (F := F) 𝒱 c bd i arg3 harg3 arg4 harg4 arg5 harg5 arg6 harg6 arg7 harg7 arg8 harg8 arg9 harg9 h1 X G k0_t1_loop.trips u ⊢ _
    iintro ⟨H5, ⟨%f, H8, %hf⟩⟩
    isplitl [H5]; · iexact H5
    have e : f = harg8.unread (vtM.view.read (Elt F) (vtM.view.writes (Elt F) vtM.view.junk
          (pb_k0_t1 (F := F) 𝒱 c bd i arg3 harg3 arg4 harg4 arg5 harg5 arg6 harg6 arg7 harg7 arg8 harg8 arg9 harg9 h1 X k0_t1_loop.trips))) :=
      harg8.eq_unread (by
        rw [hf]
        exact View.read_writes_of_cover _ _ _ _ _ (vt_cover c i arg3 harg3 arg4 harg4 arg5 harg5 arg6 harg6 arg7 harg7 arg8 harg8 arg9 harg9 𝒱 bd h1 X))
    rw [← e]
    iexact H8

/-- The body with its parts at their skeletons, under any predicate. -/
theorem of_skeleton (R : Prog (TpuEff nD τ sig (Elt F) Λ₀ .tc) PUnit → Prop) (h : R (cc0_fox_attention i arg3 harg3 arg4 harg4 arg5 harg5 arg6 harg6 arg7 harg7 arg8 harg8 arg9 harg9)) : R (cc0_fox_attention i arg3 harg3 arg4 harg4 arg5 harg5 arg6 harg6 arg7 harg7 arg8 harg8 arg9 harg9) := by
  simp only [cc0_fox_attention_eq_skeleton] at h ⊢; unfold cc0_fox_attention_skel at h ⊢
  simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton] at h ⊢
  exact h

end

end Cert.FoxIdeal.Hand

end
-- ==== Proof.FoxIdealRunA.lean ====
module

public import proofs.«01_k».proof.Proof.FoxIdealExit

@[expose] public section

set_option maxRecDepth 16384

/-! One grid point of the forgetting attention, run on whole memrefs, at the first query blocks. -/

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords) (arg3 : Memref sig .tc .vmem S1x512x512 .bf16) (harg3 : arg3.IsWhole)
  (arg4 : Memref sig .tc .vmem S1x8192x512 .bf16) (harg4 : arg4.IsWhole)
  (arg5 : Memref sig .tc .vmem S1x8192x512 .bf16) (harg5 : arg5.IsWhole)
  (arg6 : Memref sig .tc .vmem S1x4x8192x128 .bf16) (harg6 : arg6.IsWhole)
  (arg7 : Memref sig .tc .vmem S1x512x512 .bf16) (harg7 : arg7.IsWhole)
  (arg8 : Memref sig .tc .vmem S4x144x8192 .bf16) (harg8 : arg8.IsWhole)
  (arg9 : Memref sig .tc .vmem S4x144x512 .f32) (harg9 : arg9.IsWhole)

set_option maxHeartbeats 4000000 in
/-- The run at a group's first query block: the pieces the output's staging memref ends with, with the
proof that the body runs to them and leaves the transposed values at `vtOf`. -/
noncomputable def runA (h1 : first i) (h2 : evenBlock i) (h3 : ¬oddBlock i)
    (x0 : Vec F S1x512x512 .bf16) (x1 : Vec F S1x8192x512 .bf16) (x2 : Vec F S1x8192x512 .bf16) (x3 : Vec F S1x4x8192x128 .bf16) :
    { L : List (View.Piece (Elt F) S1x512x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ owns (c : Thread nD τ) arg8 fullShare (vtOf c i arg3 harg3 arg4 harg4 arg5 harg5 arg6 harg6 arg7 harg7 arg8 harg8 arg9 harg9 h1 x2) ∗ (∃ d, owns (c : Thread nD τ) arg9 fullShare d)) -∗ K ⟨⟩))
          ⊢ wp frame (wpE (defs₀ (F := F)) Variants.none c none) E (cc0_fox_attention i arg3 harg3 arg4 harg4 arg5 harg5 arg6 harg6 arg7 harg7 arg8 harg8 arg9 harg9) K } := by
  refine ⟨?_, fun E K => ?run⟩
  case run =>
    simp only [cc0_fox_attention_eq_skeleton]; unfold cc0_fox_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [HL0]
    · iexists _; isplitr; · ipureintro; exact harg5.read_unread _
      iexact HL0
    isplitl [H3]
    · iexists _; isplitr; · ipureintro; exact harg6.read_unread _
      iexact H3
    isplitl [H7]; · iexists _; iexact H7
    isplitl [HL1]
    · iexists _; isplitr; · ipureintro; exact harg8.read_unread _
      iexact HL1
    iexists _; iexists _; isplitr
    swap; · iexact H9
    ipureintro; rfl

end

end Cert.FoxIdeal.Hand

end
-- ==== Proof.FoxIdealRunB.lean ====
module

public import proofs.«01_k».proof.Proof.FoxIdealExit

@[expose] public section

set_option maxRecDepth 16384

/-! One grid point of the forgetting attention, run on whole memrefs, at the later even query blocks. -/

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords) (arg3 : Memref sig .tc .vmem S1x512x512 .bf16) (harg3 : arg3.IsWhole)
  (arg4 : Memref sig .tc .vmem S1x8192x512 .bf16) (harg4 : arg4.IsWhole)
  (arg5 : Memref sig .tc .vmem S1x8192x512 .bf16) (harg5 : arg5.IsWhole)
  (arg6 : Memref sig .tc .vmem S1x4x8192x128 .bf16) (harg6 : arg6.IsWhole)
  (arg7 : Memref sig .tc .vmem S1x512x512 .bf16) (harg7 : arg7.IsWhole)
  (arg8 : Memref sig .tc .vmem S4x144x8192 .bf16) (harg8 : arg8.IsWhole)
  (arg9 : Memref sig .tc .vmem S4x144x512 .f32) (harg9 : arg9.IsWhole)

set_option maxHeartbeats 4000000 in
/-- The run at a later even query block, the transposed values at given contents. -/
noncomputable def runB (h1 : ¬first i) (h2 : evenBlock i) (h3 : ¬oddBlock i)
    (x0 : Vec F S1x512x512 .bf16) (x1 : Vec F S1x8192x512 .bf16) (x2 : Vec F S1x8192x512 .bf16) (x3 : Vec F S1x4x8192x128 .bf16) (vt : Vec F S4x144x8192 .bf16) :
    { L : List (View.Piece (Elt F) S1x512x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare vt ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ owns (c : Thread nD τ) arg8 fullShare vt ∗ (∃ d, owns (c : Thread nD τ) arg9 fullShare d)) -∗ K ⟨⟩))
          ⊢ wp frame (wpE (defs₀ (F := F)) Variants.none c none) E (cc0_fox_attention i arg3 harg3 arg4 harg4 arg5 harg5 arg6 harg6 arg7 harg7 arg8 harg8 arg9 harg9) K } := by
  refine ⟨?_, fun E K => ?run⟩
  case run =>
    simp only [cc0_fox_attention_eq_skeleton]; unfold cc0_fox_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%d9, %f9, -, H9⟩, Hk⟩
    obtain rfl := harg3.eq_unread hf0; obtain rfl := harg4.eq_unread hf1; obtain rfl := harg5.eq_unread hf2; obtain rfl := harg6.eq_unread hf3; obtain rfl := harg8.eq_unread hf8
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]
    · iexists _; isplitr; · ipureintro; exact harg8.read_unread _
      iexact H8
    iexists _; iexists _; isplitr
    swap; · iexact H9
    ipureintro; rfl

end

end Cert.FoxIdeal.Hand

end
-- ==== Proof.FoxIdealRunC.lean ====
module

public import proofs.«01_k».proof.Proof.FoxIdealExit

@[expose] public section

set_option maxRecDepth 16384

/-! One grid point of the forgetting attention, run on whole memrefs, at the odd query blocks. -/

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords) (arg3 : Memref sig .tc .vmem S1x512x512 .bf16) (harg3 : arg3.IsWhole)
  (arg4 : Memref sig .tc .vmem S1x8192x512 .bf16) (harg4 : arg4.IsWhole)
  (arg5 : Memref sig .tc .vmem S1x8192x512 .bf16) (harg5 : arg5.IsWhole)
  (arg6 : Memref sig .tc .vmem S1x4x8192x128 .bf16) (harg6 : arg6.IsWhole)
  (arg7 : Memref sig .tc .vmem S1x512x512 .bf16) (harg7 : arg7.IsWhole)
  (arg8 : Memref sig .tc .vmem S4x144x8192 .bf16) (harg8 : arg8.IsWhole)
  (arg9 : Memref sig .tc .vmem S4x144x512 .f32) (harg9 : arg9.IsWhole)

set_option maxHeartbeats 4000000 in
/-- The run at an odd query block, the transposed values at given contents. -/
noncomputable def runC (h1 : ¬first i) (h2 : ¬evenBlock i) (h3 : oddBlock i)
    (x0 : Vec F S1x512x512 .bf16) (x1 : Vec F S1x8192x512 .bf16) (x2 : Vec F S1x8192x512 .bf16) (x3 : Vec F S1x4x8192x128 .bf16) (vt : Vec F S4x144x8192 .bf16) :
    { L : List (View.Piece (Elt F) S1x512x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare vt ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L) ∗ owns (c : Thread nD τ) arg8 fullShare vt ∗ (∃ d, owns (c : Thread nD τ) arg9 fullShare d)) -∗ K ⟨⟩))
          ⊢ wp frame (wpE (defs₀ (F := F)) Variants.none c none) E (cc0_fox_attention i arg3 harg3 arg4 harg4 arg5 harg5 arg6 harg6 arg7 harg7 arg8 harg8 arg9 harg9) K } := by
  refine ⟨?_, fun E K => ?run⟩
  case run =>
    simp only [cc0_fox_attention_eq_skeleton]; unfold cc0_fox_attention_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%d9, %f9, -, H9⟩, Hk⟩
    obtain rfl := harg3.eq_unread hf0; obtain rfl := harg4.eq_unread hf1; obtain rfl := harg5.eq_unread hf2; obtain rfl := harg6.eq_unread hf3; obtain rfl := harg8.eq_unread hf8
    sl_exec (disch := first | sl_exact h1 | sl_exact h2 | sl_exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]
    · iexists _; isplitr; · ipureintro; exact harg8.read_unread _
      iexact H8
    iexists _; iexists _; isplitr
    swap; · iexact H9
    ipureintro; rfl

end

end Cert.FoxIdeal.Hand

end
-- ==== Proof.FoxIdealFrame.lean ====
module

public import proofs.«01_k».proof.Proof.FoxIdealRunA
public import proofs.«01_k».proof.Proof.FoxIdealRunB
public import proofs.«01_k».proof.Proof.FoxIdealRunC
public import Idealize.ShloMosaic.Lib.Claim

@[expose] public section

set_option maxRecDepth 16384

/-! The frame of the forgetting attention: the transposed values a group's first query block leaves are the
invariant of the points after it. -/

noncomputable section

namespace Cert.FoxIdeal.Hand

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points of each case -/

theorem first_iff : ∀ t : Fin cfg0.N, first (grid0.coords t) ↔ t.val % 16 = 0 :=
  (by decide +kernel : ∀ t : Fin grid0.N, k0_cond1 (grid0.coords t) = 1#1 ↔ t.val % 16 = 0)
theorem even_iff : ∀ t : Fin cfg0.N, evenBlock (grid0.coords t) ↔ t.val % 2 = 0 :=
  (by decide +kernel : ∀ t : Fin grid0.N, k0_cond2 (grid0.coords t) = 1#1 ↔ t.val % 2 = 0)
theorem odd_iff : ∀ t : Fin cfg0.N, oddBlock (grid0.coords t) ↔ t.val % 2 = 1 :=
  (by decide +kernel : ∀ t : Fin grid0.N, k0_cond3 (grid0.coords t) = 1#1 ↔ t.val % 2 = 1)

/-! ## The staging memrefs at a point -/

abbrev stg0 (t : Fin cfg0.N) : Memref sig .tc .vmem S1x512x512 .bf16 := win0_0.stage (cfg0.slots t 0)
abbrev whole0 (t : Fin cfg0.N) : (stg0 t).IsWhole := hstage0_0 ((cfg0.slots t 0).cast nbuf0_0)
abbrev stg1 (t : Fin cfg0.N) : Memref sig .tc .vmem S1x8192x512 .bf16 := win0_1.stage (cfg0.slots t 1)
abbrev whole1 (t : Fin cfg0.N) : (stg1 t).IsWhole := hstage0_1 ((cfg0.slots t 1).cast nbuf0_1)
abbrev stg2 (t : Fin cfg0.N) : Memref sig .tc .vmem S1x8192x512 .bf16 := win0_2.stage (cfg0.slots t 2)
abbrev whole2 (t : Fin cfg0.N) : (stg2 t).IsWhole := hstage0_2 ((cfg0.slots t 2).cast nbuf0_2)
abbrev stg3 (t : Fin cfg0.N) : Memref sig .tc .vmem S1x4x8192x128 .bf16 := win0_3.stage (cfg0.slots t 3)
abbrev whole3 (t : Fin cfg0.N) : (stg3 t).IsWhole := hstage0_3 ((cfg0.slots t 3).cast nbuf0_3)
abbrev stg4 (t : Fin cfg0.N) : Memref sig .tc .vmem S1x512x512 .bf16 := win0_4.stage (cfg0.slots t 4)
abbrev whole4 (t : Fin cfg0.N) : (stg4 t).IsWhole := hstage0_4 ((cfg0.slots t 4).cast nbuf0_4)
/-- One staging buffer of the output, through which its contents are stated. -/
abbrev outV : View sig .tc .vmem S1x512x512 .bf16 := (Memref.whole cc0_stg4_0 : Memref sig .tc .vmem S1x512x512 .bf16).view

/-- The class's invariant with the two scratch operands as memrefs at some contents. -/
theorem PhiA_eq (c : Dev nD) :
    (Pipeline.ΦA spec0 c : sProp 𝕄)
      = iprop(iprop((∃ d, owns (c : Thread nD τ) vtM fullShare d) ∗ (∃ d, owns (c : Thread nD τ) accM fullShare d)) ∗ (∃ r, prngReg c r)) := by
  unfold Pipeline.ΦA; rw [scopedRest0_eq]; simp only [vtM, accM, owns_whole]; try rfl

/-! ## What a point leaves -/

/-- The transposed values after the first point of a group, if `t` is that point. -/
def vtFrom (c : Dev nD) (t : Fin cfg0.N) (h : t.val % 16 = 0) : Vec F S4x144x8192 .bf16 :=
  vtOf c (grid0.coords t) (stg0 t) (whole0 t) (stg1 t) (whole1 t) (stg2 t) (whole2 t) (stg3 t) (whole3 t) (stg4 t) (whole4 t) vtM (Memref.isWhole_whole _) accM (Memref.isWhole_whole _) ((first_iff t).mpr h) (iblk m c 2 t)

/-- The transposed values of group `g`. -/
def vtAt (c : Dev nD) (g : ℕ) (hg : g < 4) : Vec F S4x144x8192 .bf16 :=
  vtFrom m c ⟨16 * g, lt_of_lt_of_eq (by omega) (show (64 : ℕ) = cfg0.N from N_0.symm)⟩ (by dsimp only; omega)

theorem vtAt_congr (c : Dev nD) (g g' : ℕ) (hg : g < 4) (hg' : g' < 4) (e : g = g') : vtAt m c g hg = vtAt m c g' hg' := by
  subst e; rfl

theorem vtFrom_eq (c : Dev nD) (t : Fin cfg0.N) (h : t.val % 16 = 0) (hg : t.val / 16 < 4) : vtFrom m c t h = vtAt m c (t.val / 16) hg := by
  have key : ∀ (s : Fin cfg0.N) (hs : s.val % 16 = 0), t = s → vtFrom m c t h = vtFrom m c s hs := by
    intro s hs es; subst es; rfl
  exact key _ _ (Fin.ext (by dsimp only; omega))

theorem group_lt (n : ℕ) (hn : n < cfg0.N) : n / 16 < 4 := by
  have : n < 64 := lt_of_lt_of_eq hn N_0
  omega

/-- The output's block after the body at point `t`. -/
def outAt (c : Dev nD) (t : Fin cfg0.N) : Vec F S1x512x512 .bf16 :=
  if h0 : t.val % 16 = 0 then
    outV.read (Elt F) (outV.writes (Elt F) outV.junk (runA c (grid0.coords t) (stg0 t) (whole0 t) (stg1 t) (whole1 t) (stg2 t) (whole2 t) (stg3 t) (whole3 t) (stg4 t) (whole4 t) vtM (Memref.isWhole_whole _) accM (Memref.isWhole_whole _) ((first_iff t).mpr h0) ((even_iff t).mpr (by omega)) (fun h => by have := (odd_iff t).mp h; omega)
      (iblk m c 0 t) (iblk m c 1 t) (iblk m c 2 t) (iblk m c 3 t)).1)
  else if h1 : t.val % 2 = 0 then
    outV.read (Elt F) (outV.writes (Elt F) outV.junk (runB c (grid0.coords t) (stg0 t) (whole0 t) (stg1 t) (whole1 t) (stg2 t) (whole2 t) (stg3 t) (whole3 t) (stg4 t) (whole4 t) vtM (Memref.isWhole_whole _) accM (Memref.isWhole_whole _) (fun h => h0 ((first_iff t).mp h)) ((even_iff t).mpr h1) (fun h => by have := (odd_iff t).mp h; omega)
      (iblk m c 0 t) (iblk m c 1 t) (iblk m c 2 t) (iblk m c 3 t) (vtAt m c (t.val / 16) (group_lt t.val t.isLt))).1)
  else
    outV.read (Elt F) (outV.writes (Elt F) outV.junk (runC c (grid0.coords t) (stg0 t) (whole0 t) (stg1 t) (whole1 t) (stg2 t) (whole2 t) (stg3 t) (whole3 t) (stg4 t) (whole4 t) vtM (Memref.isWhole_whole _) accM (Memref.isWhole_whole _) (fun h => h0 ((first_iff t).mp h)) (fun h => h1 ((even_iff t).mp h)) ((odd_iff t).mpr (by omega))
      (iblk m c 0 t) (iblk m c 1 t) (iblk m c 2 t) (iblk m c 3 t) (vtAt m c (t.val / 16) (group_lt t.val t.isLt))).1)

/-- The invariant before position `n`: afterwards the transposed values are the group's of the point before. -/
def Inv (c : Dev nD) : (n : ℕ) → n ≤ cfg0.N → sProp 𝕄
  | 0, _ => Pipeline.ΦA spec0 c
  | n + 1, hn => iprop(iprop(owns (c : Thread nD τ) vtM fullShare (vtAt m c (n / 16) (group_lt n hn)) ∗ (∃ d, owns (c : Thread nD τ) accM fullShare d)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) vtM fullShare (vtAt m c (n / 16) (group_lt n hn)) ∗ (∃ d, owns (c : Thread nD τ) accM fullShare d)) ∗ (∃ r, prngReg c r)) := rfl
theorem Inv_pos (c : Dev nD) (n : ℕ) (h : n ≤ cfg0.N) (hz : n ≠ 0) :
    Inv m c n h = iprop(iprop(owns (c : Thread nD τ) vtM fullShare (vtAt m c ((n - 1) / 16) (group_lt _ (by omega))) ∗ (∃ d, owns (c : Thread nD τ) accM fullShare d)) ∗ (∃ r, prngReg c r)) := by
  cases n with
  | zero => exact absurd rfl hz
  | succ n => rfl

/-! ## The proof data and the body -/

/-- The arrays as the region finds them; each input's buffer at its block, the output's at `outAt`; the invariant
    `Inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Every window is used at every point. -/
theorem live (w : Fin cfg0.W) (t : Fin cfg0.N) : cfg0.idle w (grid0.coords t) = false :=
  (by decide +kernel : ∀ (w : Fin cfg0.W) (t : Fin grid0.N), cfg0.idle w (grid0.coords t) = false) w t
theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w t]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

section
variable (c : Dev nD) (i : grid0.Coords) (arg3 : Memref sig .tc .vmem S1x512x512 .bf16) (harg3 : arg3.IsWhole)
  (arg4 : Memref sig .tc .vmem S1x8192x512 .bf16) (harg4 : arg4.IsWhole)
  (arg5 : Memref sig .tc .vmem S1x8192x512 .bf16) (harg5 : arg5.IsWhole)
  (arg6 : Memref sig .tc .vmem S1x4x8192x128 .bf16) (harg6 : arg6.IsWhole)
  (arg7 : Memref sig .tc .vmem S1x512x512 .bf16) (harg7 : arg7.IsWhole)
  (arg8 : Memref sig .tc .vmem S4x144x8192 .bf16) (harg8 : arg8.IsWhole)
  (arg9 : Memref sig .tc .vmem S4x144x512 .f32) (harg9 : arg9.IsWhole)
  (x0 : Vec F S1x512x512 .bf16) (x1 : Vec F S1x8192x512 .bf16) (x2 : Vec F S1x8192x512 .bf16) (x3 : Vec F S1x4x8192x128 .bf16)
  (vt : Vec F S4x144x8192 .bf16) (y : S1x512x512.Idx)

/-- In each case the four heads' stores cover the output's block. -/
theorem coverA (h1 : first i) (h2 : evenBlock i) (h3 : ¬oddBlock i) : ∃ pc ∈ (runA c i arg3 harg3 arg4 harg4 arg5 harg5 arg6 harg6 arg7 harg7 arg8 harg8 arg9 harg9 h1 h2 h3 x0 x1 x2 x3).1, y ∈ pc.1.set :=
  View.cover_of_tiledL (runA c i arg3 harg3 arg4 harg4 arg5 harg5 arg6 harg6 arg7 harg7 arg8 harg8 arg9 harg9 h1 h2 h3 x0 x1 x2 x3).1 S1x512x128.size (by sl_kernel_rfl) y
theorem coverB (h1 : ¬first i) (h2 : evenBlock i) (h3 : ¬oddBlock i) : ∃ pc ∈ (runB c i arg3 harg3 arg4 harg4 arg5 harg5 arg6 harg6 arg7 harg7 arg8 harg8 arg9 harg9 h1 h2 h3 x0 x1 x2 x3 vt).1, y ∈ pc.1.set :=
  View.cover_of_tiledL (runB c i arg3 harg3 arg4 harg4 arg5 harg5 arg6 harg6 arg7 harg7 arg8 harg8 arg9 harg9 h1 h2 h3 x0 x1 x2 x3 vt).1 S1x512x128.size (by sl_kernel_rfl) y
theorem coverC (h1 : ¬first i) (h2 : ¬evenBlock i) (h3 : oddBlock i) : ∃ pc ∈ (runC c i arg3 harg3 arg4 harg4 arg5 harg5 arg6 harg6 arg7 harg7 arg8 harg8 arg9 harg9 h1 h2 h3 x0 x1 x2 x3 vt).1, y ∈ pc.1.set :=
  View.cover_of_tiledL (runC c i arg3 harg3 arg4 harg4 arg5 harg5 arg6 harg6 arg7 harg7 arg8 harg8 arg9 harg9 h1 h2 h3 x0 x1 x2 x3 vt).1 S1x512x128.size (by sl_kernel_rfl) y
end

set_option maxHeartbeats 6400000 in
/-- The body at any point, in the point's case: the run applies, the transposed values being the group's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    leaves_eq, leaves_eq, leaves_eq, leaves_eq, leaves_eq, after0_0, after0_1, after0_2, after0_3, after0_4]
  rw [show (dats m 0 c).Φ t.succ = Inv m c (t.val + 1) t.isLt from rfl, Inv_succ]
  have hN : t.val < 64 := lt_of_lt_of_eq t.isLt (show cfg0.N = 64 from N_0)
  by_cases h0 : t.val % 16 = 0
  · have hpre : Inv m c t.val (Nat.le_of_lt t.isLt) ⊢ iprop(iprop((∃ d, owns (c : Thread nD τ) vtM fullShare d) ∗ (∃ d, owns (c : Thread nD τ) accM fullShare d)) ∗ (∃ r, prngReg c r)) := by
      by_cases hz : t.val = 0
      · rw [Inv_zero m c _ _ hz, PhiA_eq]
        try exact Idealize.SL.BI.Entails.refl _
      · rw [Inv_pos m c _ _ hz]
        iintro ⟨⟨H8, H9⟩, Hg⟩
        isplitl [H8 H9]
        · isplitl [H8]; · iexists _; iexact H8
          iexact H9
        iexact Hg
    rw [Inv_castSucc m c t]
    refine (sep_mono_left hpre).trans ?_
    rw [← vtFrom_eq m c t h0 (group_lt t.val t.isLt)]
    unfold outAt vtFrom; rw [dif_pos h0]
    iintro ⟨⟨⟨H8, H9⟩, Hg⟩, Ho, ⟨%d0, H0⟩, ⟨%d1, H1⟩, ⟨%d2, H2⟩, ⟨%d3, H3⟩, ⟨%d4, H4⟩⟩
    iapply ((runA c (grid0.coords t) (stg0 t) (whole0 t) (stg1 t) (whole1 t) (stg2 t) (whole2 t) (stg3 t) (whole3 t) (stg4 t) (whole4 t) vtM (Memref.isWhole_whole _) accM (Memref.isWhole_whole _) ((first_iff t).mpr h0) ((even_iff t).mpr (by omega)) (fun h => by have := (odd_iff t).mp h; omega) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [H8]; · iexact H8
    isplitl [H9]; · iexact H9
    iintro ⟨H0, H1, H2, H3, ⟨%e4, H4⟩, H8, H9⟩
    isplitl [H8 H9 Hg]
    · isplitl [H8 H9]
      · isplitl [H8]; · iexact H8
        iexact H9
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (fun y => coverA c (grid0.coords t) (stg0 t) (whole0 t) (stg1 t) (whole1 t) (stg2 t) (whole2 t) (stg3 t) (whole3 t) (stg4 t) (whole4 t) vtM (Memref.isWhole_whole _) accM (Memref.isWhole_whole _) _ _ _ _ y _ _ _)
  · have hz : t.val ≠ 0 := fun h => h0 (by rw [h])
    rw [Inv_castSucc m c t, Inv_pos m c _ _ hz, vtAt_congr m c ((t.val - 1) / 16) (t.val / 16) _ (group_lt t.val t.isLt) (by omega)]
    by_cases h1 : t.val % 2 = 0
    · unfold outAt; rw [dif_neg h0, dif_pos h1]
      iintro ⟨⟨⟨H8, H9⟩, Hg⟩, Ho, ⟨%d0, H0⟩, ⟨%d1, H1⟩, ⟨%d2, H2⟩, ⟨%d3, H3⟩, ⟨%d4, H4⟩⟩
      iapply ((runB c (grid0.coords t) (stg0 t) (whole0 t) (stg1 t) (whole1 t) (stg2 t) (whole2 t) (stg3 t) (whole3 t) (stg4 t) (whole4 t) vtM (Memref.isWhole_whole _) accM (Memref.isWhole_whole _) (fun h => h0 ((first_iff t).mp h)) ((even_iff t).mpr h1) (fun h => by have := (odd_iff t).mp h; omega) (iblk m c 0 t) (iblk m c 1 t) (iblk m c 2 t) (iblk m c 3 t) (vtAt m c (t.val / 16) (group_lt t.val t.isLt))).2 Set.univ _)
      isplitl [H0]; · iexact H0
      isplitl [H1]; · iexact H1
      isplitl [H2]; · iexact H2
      isplitl [H3]; · iexact H3
      isplitl [H4]; · iexists _; iexact H4
      isplitl [H8]; · iexact H8
      isplitl [H9]; · iexact H9
      iintro ⟨H0, H1, H2, H3, ⟨%e4, H4⟩, H8, H9⟩
      isplitl [H8 H9 Hg]
      · isplitl [H8 H9]
        · isplitl [H8]; · iexact H8
          iexact H9
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (fun y => coverB c (grid0.coords t) (stg0 t) (whole0 t) (stg1 t) (whole1 t) (stg2 t) (whole2 t) (stg3 t) (whole3 t) (stg4 t) (whole4 t) vtM (Memref.isWhole_whole _) accM (Memref.isWhole_whole _) _ _ _ _ _ y _ _ _)
    · unfold outAt; rw [dif_neg h0, dif_neg h1]
      iintro ⟨⟨⟨H8, H9⟩, Hg⟩, Ho, ⟨%d0, H0⟩, ⟨%d1, H1⟩, ⟨%d2, H2⟩, ⟨%d3, H3⟩, ⟨%d4, H4⟩⟩
      iapply ((runC c (grid0.coords t) (stg0 t) (whole0 t) (stg1 t) (whole1 t) (stg2 t) (whole2 t) (stg3 t) (whole3 t) (stg4 t) (whole4 t) vtM (Memref.isWhole_whole _) accM (Memref.isWhole_whole _) (fun h => h0 ((first_iff t).mp h)) (fun h => h1 ((even_iff t).mp h)) ((odd_iff t).mpr (by omega)) (iblk m c 0 t) (iblk m c 1 t) (iblk m c 2 t) (iblk m c 3 t) (vtAt m c (t.val / 16) (group_lt t.val t.isLt))).2 Set.univ _)
      isplitl [H0]; · iexact H0
      isplitl [H1]; · iexact H1
      isplitl [H2]; · iexact H2
      isplitl [H3]; · iexact H3
      isplitl [H4]; · iexists _; iexact H4
      isplitl [H8]; · iexact H8
      isplitl [H9]; · iexact H9
      iintro ⟨H0, H1, H2, H3, ⟨%e4, H4⟩, H8, H9⟩
      isplitl [H8 H9 Hg]
      · isplitl [H8 H9]
        · isplitl [H8]; · iexact H8
          iexact H9
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (fun y => coverC c (grid0.coords t) (stg0 t) (whole0 t) (stg1 t) (whole1 t) (stg2 t) (whole2 t) (stg3 t) (whole3 t) (stg4 t) (whole4 t) vtM (Memref.isWhole_whole _) accM (Memref.isWhole_whole _) _ _ _ _ _ y _ _ _)

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 64 := N_0; omega
  rw [show (dats m 0 c).Φ (Fin.last cfg0.N) = Inv m c (Fin.last cfg0.N).val (Nat.le_of_lt_succ (Fin.last cfg0.N).isLt) from rfl, Inv_pos m c _ _ hne, PhiA_eq]
  iintro ⟨⟨H8, H9⟩, Hg⟩
  isplitl [H8 H9]
  · isplitl [H8]; · iexists _; iexact H8
    iexact H9
  iexact Hg

/-! ## The run and the frame -/

set_option backward.isDefEq.respectTransparency.types false in
/-- Every execution of @main terminates with every array of the pipeline at what the proof data say, every other
    unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.FoxIdeal.Hand

end
-- ==== Proof.InprojEq.lean ====
/-
  The input projection of the first layer: what its grid points store, the array they leave, and that it is the
  plain product of the reference.
-/
module

public import proofs.«01_k».proof.Defs
public import proofs.«01_k».proof.Proof.Gen.InprojIdeal.Value
public import proofs.«01_k».proof.Proof.Gen.InprojRefIdeal.Run
public import proofs.«01_k».proof.Proof.Gen.InprojRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InprojValue

open Idealize.ShloMosaic Idealize.ShloMosaic.TcCoe Idealize.ShloMosaic.Tactic Idealize.SL.Sem
open Cert.InprojIdeal Cert.InprojIdeal.Gen

variable (m : (ℓ : Loc nD τ sig) → Buf (Elt Ideal) ℓ)

/-- The argument arrays: the rows and the weights. -/
abbrev argX (c : Dev nD) : FVec Ideal S16384x2048 .f32 := m ((c : Thread nD τ).loc main_arg0)
abbrev argW (c : Dev nD) : FVec Ideal S2048x6144 .f32 := m ((c : Thread nD τ).loc main_arg1)

/-- The stored block is the block read. -/
theorem stored (x : FVec Ideal S1024x2048 .f32) : k0_pay1 (F := Ideal) x = x := by
  funext j
  idx_vars j
  pointwise [k0_pay1]

/-- One block of the product, scaled column by column. -/
theorem scaled (x : FVec Ideal S1024x2048 .bf16) (w : FVec Ideal S2048x1536 .bf16) (s : FVec Ideal S1x1536 .f32)
    (r : Fin 1024) (q : Fin 1536) :
    k0_pay2 (F := Ideal) x w s (ix2 r q) = (∑ d : Fin 2048, x (ix2 r d) * w (ix2 d q)) * s (ix2 0 q) := by
  pointwise [k0_pay2, zero_add]

/-- The first point of a row block stores the block of `x` and multiplies it. -/
theorem first_point (c : Dev nD) (t : Fin cfg0.N) (h0 : t.val % 4 = 0) :
    outsAt0 m c t.val t.isLt = (k0_pay2 (k0_pay1 (iblk m c 0 t)) (iblk m c 1 t) (iblk m c 2 t), k0_pay1 (iblk m c 0 t)) := by
  rw [outsAt0_A m c t h0]
  refine Prod.ext ?_ ?_ <;> frame_out

/-- A later point multiplies the stored block and keeps it. -/
theorem later_point (c : Dev nD) (t : Fin cfg0.N) (h0 : ¬t.val % 4 = 0) :
    outsAt0 m c t.val t.isLt = (k0_pay2 (outsAt0 m c (t.val - 1) (by omega)).2 (iblk m c 1 t) (iblk m c 2 t),
      (outsAt0 m c (t.val - 1) (by omega)).2) := by
  rw [outsAt0_B m c t h0]
  refine Prod.ext ?_ ?_
  · frame_out
    simp only [read_unread_whole]
  · rfl

/-- Where each window's block lies at point `t`: rows by `t / 4`, columns by `t % 4`. -/
theorem idx : ∀ t : Fin cfg0.N, win0_0.index t = ![t.val / 4, 0] ∧ win0_1.index t = ![0, t.val % 4]
    ∧ win0_2.index t = ![0, t.val % 4] ∧ win0_3.index t = ![t.val / 4, t.val % 4] :=
  (by decide +kernel : ∀ t : Fin grid0.N, _)

/-- A row and a column of the `t`-th block, as a row and a column of the whole. -/
def row (t : Fin cfg0.N) (r : Fin 1024) : Fin 16384 := ⟨1024 * (t.val / 4) + r.val, by
  have := t.isLt; have hN : cfg0.N = 64 := N_0; have := r.isLt; omega⟩
def col (t : Fin cfg0.N) (k : Fin 1536) : Fin 6144 := ⟨1536 * (t.val % 4) + k.val, by have := k.isLt; omega⟩

theorem blk_x (c : Dev nD) (t : Fin cfg0.N) (r : Fin 1024) (d : Fin 2048) :
    (iblk m c 0 t : FVec Ideal S1024x2048 .f32) (ix2 r d) = argX m c (ix2 (row t r) d) := by
  blk_point [iblk, V, idx t]
  simp only [row]; omega

theorem blk_w (c : Dev nD) (t : Fin cfg0.N) (d : Fin 2048) (k : Fin 1536) :
    (iblk m c 1 t : FVec Ideal S2048x1536 .bf16) (ix2 d k) = argW m c (ix2 d (col t k)) := by
  blk_point [iblk, V, idx t]
  simp only [col]; omega

/-- The column factors are all one. -/
theorem blk_s (c : Dev nD) (t : Fin cfg0.N) (k : Fin 1536) :
    (iblk m c 2 t : FVec Ideal S1x1536 .f32) (ix2 0 k) = (1 : EReal) := by
  blk_simp [iblk, V, idx t]
  entry_read
  pointwise

/-- The stored block is the block of `x` of the point's own rows, at every point. -/
theorem held (c : Dev nD) : ∀ (n : Nat) (h : n < cfg0.N) (r : Fin 1024) (d : Fin 2048),
    ((outsAt0 m c n h).2 : FVec Ideal S1024x2048 .bf16) (ix2 r d) = argX m c (ix2 (row ⟨n, h⟩ r) d) := by
  have base : ∀ (t : Fin cfg0.N), t.val % 4 = 0 → ∀ (r : Fin 1024) (d : Fin 2048),
      ((outsAt0 m c t.val t.isLt).2 : FVec Ideal S1024x2048 .bf16) (ix2 r d) = argX m c (ix2 (row t r) d) := by
    intro t h0 r d
    rw [first_point m c t h0]
    dsimp only
    rw [stored]
    exact blk_x m c t r d
  intro n
  induction n with
  | zero => exact fun h r d => base ⟨0, h⟩ rfl r d
  | succ n ih =>
    intro h r d
    by_cases h0 : (n + 1) % 4 = 0
    · exact base ⟨n + 1, h⟩ h0 r d
    · rw [later_point m c ⟨n + 1, h⟩ h0]
      refine (ih (Nat.lt_of_succ_lt h) r d).trans ?_
      congr 2
      refine Fin.ext ?_
      simp only [row]
      omega

/-- What a point writes back: its block of the product. -/
theorem written (c : Dev nD) (t : Fin cfg0.N) (r : Fin 1024) (q : Fin 1536) :
    ((outsAt0 m c t.val t.isLt).1 : FVec Ideal S1024x1536 .f32) (ix2 r q)
      = ∑ d : Fin 2048, argX m c (ix2 (row t r) d) * argW m c (ix2 d (col t q)) := by
  by_cases h0 : t.val % 4 = 0
  · rw [first_point m c t h0]
    dsimp only
    rw [scaled, stored, blk_s m c t, mul_one]
    simp only [blk_x m c t, blk_w m c t]
  · rw [later_point m c t h0]
    dsimp only
    rw [scaled, blk_s m c t, mul_one]
    have hr : row ⟨t.val - 1, Nat.lt_of_le_of_lt (Nat.sub_le _ _) t.isLt⟩ r = row t r :=
      Fin.ext (by simp only [row]; omega)
    simp only [held m c, hr, blk_w m c t]

/-- The array after the run is the reference's product. -/
theorem result_eq (c : Dev nD) :
    (dats m 0 c).arrAt 3 cfg0.N = Cert.InprojRefIdeal.Read.val_main_v0 (F := Ideal) (argX m c) (argW m c) := by
  refine (dats m 0 c).arrAt_eq_of_covers 3 _ (by decide +kernel) fun t hf y => ?_
  blk_simp
  rw [after0_3]
  obtain ⟨r, q, rfl⟩ : ∃ (r : Fin 1024) (q : Fin 1536), y = ix2 r q :=
    ⟨y 0, y 1, by funext a; fin_cases a <;> rfl⟩
  refine (written m c t r q).trans ?_
  have h : ∀ (r : Fin 16384) (q : Fin 6144),
      Cert.InprojRefIdeal.Read.val_main_v0 (F := Ideal) (argX m c) (argW m c) (ix2 r q)
        = ∑ d : Fin 2048, argX m c (ix2 r d) * argW m c (ix2 d q) := by
    intro r q
    pointwise [Cert.InprojRefIdeal.Read.val_main_v0]
  refine (h _ _).symm.trans ?_
  refine congrArg _ ?_
  blk_ext [idx t]
  all_goals (simp only [row, col]; omega)

/-- The kernel's result over the extended reals is the reference's, on equal arguments. -/
theorem algebraic_Inproj : Cert.algebraic_InprojIdeal_InprojRefIdeal := by
  intro m g m' g' _ hagree
  refine ⟨fun c => (dats m 0 c).arrAt 3 cfg0.N, Cert.InprojIdeal.Value.run_blocks m g, ?_⟩
  refine (θ_run _ _ _).mono (fun r h c => ⟨?_, (h c).2⟩) (Cert.InprojRefIdeal.Value.run m' g')
  refine (h c).1.trans ?_
  rw [(hagree c).1, (hagree c).2]
  exact (result_eq m c).symm

end Cert.InprojValue

end
-- ==== Proof.InprojOddEq.lean ====
/-
  The input projection of the second layer: the product with the weights without their eight gate columns, each
  column by its own factor. What its grid points store, the array they leave, and that it is the reference's.
-/
module

public import proofs.«01_k».proof.Defs
public import proofs.«01_k».proof.Proof.Gen.InprojOddIdeal.Value
public import proofs.«01_k».proof.Proof.Gen.InprojOddRefIdeal.Run
public import proofs.«01_k».proof.Proof.Gen.InprojOddRefIdeal.Read
public import Idealize.ShloMosaic.Lib.Pointwise
public import Idealize.ShloMosaic.Lib.Pipeline.ValueKit

@[expose] public section

set_option maxRecDepth 16384

noncomputable section

namespace Cert.InprojOddValue

open Idealize.ShloMosaic Idealize.ShloMosaic.TcCoe Idealize.ShloMosaic.Tactic Idealize.SL.Sem
open Cert.InprojOddIdeal Cert.InprojOddIdeal.Gen

/-- The weight column that result column `q` takes: the eight gate columns are passed over. -/
def src (q : Fin 6144) : Fin 6152 := if h : q.val < 3072 then ⟨q.val, by omega⟩ else ⟨8 + q.val, by omega⟩

/-- The factor of result column `q`. -/
def fac (q : Fin 6144) : EReal :=
  if q.val < 1024 then Ideal.ofBits .f32 0x3E0293EE#32 else if q.val < 3072 then 1
  else if q.val < 4096 then Ideal.ofBits .f32 0x3DB504F3#32 else 1

/-- The result at a place. -/
def entry (x : FVec Ideal S16384x2048 .f32) (w : FVec Ideal S2048x6152 .f32) (r : Fin 16384) (q : Fin 6144) : EReal :=
  (∑ d : Fin 2048, x (ix2 r d) * w (ix2 d (src q))) * fac q

/-! ## The reference -/

section Reference
open Cert.InprojOddRefIdeal.Read

theorem ref_entry (x : FVec Ideal S16384x2048 .f32) (w : FVec Ideal S2048x6152 .f32) (r : Fin 16384) (q : Fin 6144) :
    val_main_v10 (F := Ideal) x w (ix2 r q) = entry x w r q := by
  have hp : ∀ (r : Fin 16384) (q : Fin 6152), val_main_v0 (F := Ideal) x w (ix2 r q) = ∑ d : Fin 2048, x (ix2 r d) * w (ix2 d q) := by
    intro r q
    pointwise [val_main_v0]
  have hq := q.isLt
  unfold entry fac src
  by_cases h1 : q.val < 1024
  · have h2 : q.val < 3072 := by omega
    simp only [h1, h2, if_true, dif_pos, ← hp]
    pointwise [val_main_v10, val_main_v9, val_main_v6, val_main_v5, val_main_cst, val_main_v1, h1]
  by_cases h2 : q.val < 3072
  · simp only [h1, h2, if_true, if_false, dif_pos, ← hp, mul_one]
    pointwise [val_main_v10, val_main_v9, val_main_v2, h1, h2]
    rw [dif_pos (by omega)]
    refine congrArg (fun k => val_main_v0 (F := Ideal) x w (ix2 r k)) (Fin.ext ?_)
    show 1024 + (q.val - 1024) = q.val
    omega
  by_cases h3 : q.val < 4096
  · simp only [h1, h2, h3, if_true, if_false, dif_neg, not_false_eq_true, ← hp]
    pointwise [val_main_v10, val_main_v9, val_main_v8, val_main_v7, val_main_cst_0, val_main_v3, h1, h2, h3]
    rw [dif_neg (by omega), dif_pos (by omega)]
    refine congrArg (fun k => val_main_v0 (F := Ideal) x w (ix2 r k) * _) (Fin.ext ?_)
    show 3080 + (q.val - 1024 - 2048) = 8 + q.val
    omega
  · simp only [h1, h2, h3, if_true, if_false, dif_neg, not_false_eq_true, ← hp, mul_one]
    pointwise [val_main_v10, val_main_v9, val_main_v4, h1, h2, h3]
    rw [dif_neg (by omega), dif_neg (by omega)]
    refine congrArg (fun k => val_main_v0 (F := Ideal) x w (ix2 r k)) (Fin.ext ?_)
    show 4104 + (q.val - 1024 - 2048 - 1024) = 8 + q.val
    omega

end Reference

/-! ## The kernel -/

/-- One block of the product, scaled column by column. -/
theorem scaled (x : FVec Ideal S1024x2048 .bf16) (w : FVec Ideal S2048x1536 .bf16) (s : FVec Ideal S1x1536 .f32)
    (r : Fin 1024) (q : Fin 1536) :
    k0_pay1 (F := Ideal) x w s (ix2 r q) = (∑ d : Fin 2048, x (ix2 r d) * w (ix2 d q)) * s (ix2 0 q) := by
  pointwise [k0_pay1, zero_add]

variable (m : (ℓ : Loc nD τ sig) → Buf (Elt Ideal) ℓ)

/-- The argument arrays: the rows and the weights. -/
abbrev argX (c : Dev nD) : FVec Ideal S16384x2048 .f32 := m ((c : Thread nD τ).loc main_arg0)
abbrev argW (c : Dev nD) : FVec Ideal S2048x6152 .f32 := m ((c : Thread nD τ).loc main_arg1)

/-- Where each window's block lies at point `t`: rows by `t / 4`, columns by `t % 4`. -/
theorem idx : ∀ t : Fin cfg0.N, win0_0.index t = ![t.val / 4, 0] ∧ win0_1.index t = ![0, t.val % 4]
    ∧ win0_2.index t = ![0, t.val % 4] ∧ win0_3.index t = ![t.val / 4, t.val % 4] :=
  (by decide +kernel : ∀ t : Fin grid0.N, _)

/-- A row and a column of the `t`-th block, as a row and a column of the whole. -/
def row (t : Fin cfg0.N) (r : Fin 1024) : Fin 16384 := ⟨1024 * (t.val / 4) + r.val, by
  have := t.isLt; have hN : cfg0.N = 64 := N_0; have := r.isLt; omega⟩
def col (t : Fin cfg0.N) (k : Fin 1536) : Fin 6144 := ⟨1536 * (t.val % 4) + k.val, by have := k.isLt; omega⟩

theorem blk_x (c : Dev nD) (t : Fin cfg0.N) (r : Fin 1024) (d : Fin 2048) :
    (iblk m c 0 t : FVec Ideal S1024x2048 .bf16) (ix2 r d) = argX m c (ix2 (row t r) d) := by
  blk_point [iblk, V, idx t]
  simp only [row]; omega

/-- The prepared weights, column by column. -/
theorem weights (c : Dev nD) (d : Fin 2048) (q : Fin 6144) :
    (V m c main_v3 : FVec Ideal S2048x6144 .bf16) (ix2 d q) = argW m c (ix2 d (src q)) := by
  unfold V
  entry_read
  unfold src
  by_cases h : q.val < 3072
  · simp only [h, dif_pos]
    pointwise [h]
  · simp only [h, dif_neg, not_false_eq_true]
    pointwise [h]
    refine congrArg (fun k => argW m c (ix2 d k)) (Fin.ext ?_)
    show 3080 + (q.val - 3072) = 8 + q.val
    omega

/-- A vector of 1024 equal places. -/
abbrev flat (v : FVec Ideal S_ .f32) : FVec Ideal S1024 .f32 := broadcastInDim S1024 ![] bcast_S_S1024 v

/-- The six groups of column factors, joined. -/
def groups : FVec Ideal S6144 .f32 :=
  concatenate S6144 0
    [⟨S1024, mulf (flat (constant S_ .f32 0x3F800000#32)) (flat (constant S_ .f32 0x3E0293EE#32))⟩,
     ⟨S1024, flat (constant S_ .f32 0x3F800000#32)⟩, ⟨S1024, flat (constant S_ .f32 0x3F800000#32)⟩,
     ⟨S1024, mulf (flat (constant S_ .f32 0x3F800000#32)) (flat (constant S_ .f32 0x3DB504F3#32))⟩,
     ⟨S1024, flat (constant S_ .f32 0x3F800000#32)⟩, ⟨S1024, flat (constant S_ .f32 0x3F800000#32)⟩]
    concatenates_S1024_S1024_S1024_S1024_S1024_S1024_S6144_d0

/-- The joined groups, place by place. -/
theorem groups_apply (q : Fin 6144) : groups (ix1 q) = fac q := by
  have hq := q.isLt
  unfold fac groups flat
  by_cases h1 : q.val < 1024
  · pointwise [h1]
  by_cases h2 : q.val < 3072
  · pointwise [h1, h2]
    split_ifs <;> first | rfl | omega
  by_cases h3 : q.val < 4096
  · pointwise [h1, h2, h3]
    split_ifs <;> first | rfl | omega
  · pointwise [h1, h2, h3]
    split_ifs <;> first | rfl | omega

/-- The prepared column factors. -/
theorem factors (c : Dev nD) (q : Fin 6144) :
    (V m c main_v11 : FVec Ideal S1x6144 .f32) (ix2 0 q) = fac q := by
  have h : (V m c main_v11 : FVec Ideal S1x6144 .f32) = shapeCast S1x6144 groups shapeCasts_S6144_S1x6144 := rfl
  rw [h, ← groups_apply]
  pointwise

theorem blk_w (c : Dev nD) (t : Fin cfg0.N) (d : Fin 2048) (k : Fin 1536) :
    (iblk m c 1 t : FVec Ideal S2048x1536 .bf16) (ix2 d k) = argW m c (ix2 d (src (col t k))) := by
  refine Eq.trans ?_ (weights m c d (col t k))
  blk_ext [iblk, idx t]
  simp only [col]; omega

theorem blk_s (c : Dev nD) (t : Fin cfg0.N) (k : Fin 1536) :
    (iblk m c 2 t : FVec Ideal S1x1536 .f32) (ix2 0 k) = fac (col t k) := by
  refine Eq.trans ?_ (factors m c (col t k))
  blk_ext [iblk, idx t]
  simp only [col]; omega

/-- The array after the run is the reference's composed value of the argument arrays. -/
theorem result_eq (c : Dev nD) :
    (dats m 0 c).arrAt 3 cfg0.N = Cert.InprojOddRefIdeal.Read.val_main_v10 (F := Ideal) (argX m c) (argW m c) := by
  refine (dats m 0 c).arrAt_eq_of_covers 3 _ (by decide +kernel) fun t hf y => ?_
  blk_simp
  rw [after0_3]
  frame_out
  obtain ⟨r, q, rfl⟩ : ∃ (r : Fin 1024) (q : Fin 1536), y = ix2 r q :=
    ⟨y 0, y 1, by funext a; fin_cases a <;> rfl⟩
  refine (scaled _ _ _ r q).trans ?_
  simp only [blk_x m c t, blk_w m c t, blk_s m c t]
  refine (ref_entry _ _ (row t r) (col t q)).symm.trans ?_
  refine congrArg _ ?_
  blk_ext [idx t]
  all_goals (simp only [row, col]; omega)

/-- The kernel's result over the extended reals is the reference's, on equal arguments. -/
theorem algebraic_InprojOdd : Cert.algebraic_InprojOddIdeal_InprojOddRefIdeal := by
  intro m g m' g' _ hagree
  refine ⟨fun c => (dats m 0 c).arrAt 3 cfg0.N, Cert.InprojOddIdeal.Value.run_blocks m g, ?_⟩
  refine (θ_run _ _ _).mono (fun r h c => ⟨?_, (h c).2⟩) (Cert.InprojOddRefIdeal.Value.run m' g')
  refine (h c).1.trans ?_
  rw [(hagree c).1, (hagree c).2]
  exact (Cert.InprojOddRefIdeal.Read.val_main_v10_eq _ _).trans (result_eq m c).symm

end Cert.InprojOddValue

end
-- ==== Proof.OutprojEq.lean ====
/-
  The output projection with its normalisation: each grid point normalises `√2 · x + a wa + b wb` for its 512 rows,
  where `wa` and `wb` are the upper and the lower half of the weights; the reference multiplies the joined rows.
-/
module

public import proofs.«01_k».proof.Defs
public import proofs.«01_k».proof.Proof.Norm
public import proofs.«01_k».proof.Proof.Gen.OutprojIdeal.Value
public import proofs.«01_k».proof.Proof.Gen.OutprojRefIdeal.Run
public import proofs.«01_k».proof.Proof.Gen.OutprojRefIdeal.Read
public import Idealize.ShloMosaic.Lib.Pointwise
public import Idealize.ShloMosaic.Lib.Pipeline.ValueKit

@[expose] public section

set_option maxRecDepth 16384

noncomputable section

namespace Cert.OutprojValue

open Idealize.ShloMosaic Idealize.ShloMosaic.TcCoe Idealize.ShloMosaic.Tactic Idealize.SL.Sem
open Cert.OutprojIdeal Cert.OutprojIdeal.Gen Cert.Norm

/-- A place of the upper and of the lower half of the weights' rows. -/
def up (k : Fin 1024) : Fin 2048 := ⟨k.val, by omega⟩
def low (k : Fin 1024) : Fin 2048 := ⟨1024 + k.val, by omega⟩

/-- Row `r` before normalisation. -/
def mixRow (a b : FVec Ideal S16384x1024 .f32) (w : FVec Ideal S2048x2048 .f32) (x : FVec Ideal S16384x2048 .f32)
    (r : Fin 16384) (q : Fin 2048) : EReal :=
  Ideal.ofBits .f32 0x3FB504F3#32 * x (ix2 r q)
    + ((∑ k : Fin 1024, a (ix2 r k) * w (ix2 (up k) q)) + ∑ k : Fin 1024, b (ix2 r k) * w (ix2 (low k) q))

/-! ## The reference -/

section Reference
open Cert.OutprojRefIdeal.Read

variable (a b : FVec Ideal S16384x1024 .f32) (w : FVec Ideal S2048x2048 .f32) (x : FVec Ideal S16384x2048 .f32)
  (g s : FVec Ideal S2048 .f32)

/-- A row of the joined array is the row of the one followed by the row of the other. -/
theorem joined_up (r : Fin 16384) (k : Fin 1024) : val_main_v2 (F := Ideal) a b (ix2 r (up k)) = a (ix2 r k) := by
  have h := k.isLt
  unfold up
  pointwise [val_main_v2, h]

theorem joined_low (r : Fin 16384) (k : Fin 1024) : val_main_v2 (F := Ideal) a b (ix2 r (low k)) = b (ix2 r k) := by
  have h := k.isLt
  unfold low
  pointwise [val_main_v2, h]

/-- The product over the joined row is the sum of the two products. -/
theorem product (r : Fin 16384) (q : Fin 2048) :
    val_main_v3 (F := Ideal) a b w (ix2 r q)
      = (∑ k : Fin 1024, a (ix2 r k) * w (ix2 (up k) q)) + ∑ k : Fin 1024, b (ix2 r k) * w (ix2 (low k) q) := by
  have h : val_main_v3 (F := Ideal) a b w (ix2 r q)
      = ∑ k : Fin (1024 + 1024), val_main_v2 (F := Ideal) a b (ix2 r k) * w (ix2 k q) := by
    pointwise [val_main_v3]
  rw [h, Fin.sum_univ_add]
  refine congrArg₂ _ (Finset.sum_congr rfl fun k _ => ?_) (Finset.sum_congr rfl fun k _ => ?_)
  · exact congrArg (· * _) (joined_up a b r k)
  · exact congrArg (· * _) (joined_low a b r k)

theorem ref_sum (r : Fin 16384) (q : Fin 2048) :
    val_main_v4 (F := Ideal) a b w x (ix2 r q) = mixRow a b w x r q := by
  unfold mixRow
  rw [← product]
  pointwise [val_main_v4, val_main_v1, val_main_v0, val_main_cst]

/-- The reference's result: the normalised row. -/
theorem ref_norm (r : Fin 16384) (q : Fin 2048) :
    val_main_v28 (F := Ideal) a b w x g s (ix2 r q) = normRow (mixRow a b w x r) (g (ix1 q)) (s (ix1 q)) q := by
  have h : ∀ q, val_main_v4 (F := Ideal) a b w x (ix2 r q) = mixRow a b w x r q := ref_sum a b w x r
  unfold normRow
  simp only [← h]
  pointwise [val_main_v28, val_main_v27, val_main_v26, val_main_v25, val_main_v24, val_main_v23, val_main_v22, val_main_v21,
    val_main_v20, val_main_v19, val_main_v18, val_main_cst_4, val_main_v17, val_main_v16, val_main_v15, val_main_v14,
    val_main_cst_3, val_main_v13, val_main_v12, val_main_cst_2, val_main_v11, val_main_v10, val_main_v9, val_main_v8,
    val_main_v7, val_main_cst_1, val_main_v6, val_main_v5, val_main_cst_0, zero_add]

end Reference

/-! ## The kernel -/

/-- The arithmetic of a grid point, at a place. -/
theorem normal (a b : FVec Ideal S512x1024 .bf16) (wa wb : FVec Ideal S1024x2048 .bf16) (x : FVec Ideal S512x2048 .f32)
    (g s : FVec Ideal S1x2048 .f32) (r : Fin 512) (q : Fin 2048) :
    k0_pay1 (F := Ideal) (k0_pay2 s) (k0_pay3 a wa b wb x g) (ix2 r q)
      = normRow (fun q => Ideal.ofBits .f32 0x3FB504F3#32 * x (ix2 r q)
          + ((∑ k : Fin 1024, a (ix2 r k) * wa (ix2 k q)) + ∑ k : Fin 1024, b (ix2 r k) * wb (ix2 k q)))
        (g (ix2 0 q)) (s (ix2 0 q)) q := by
  pointwise [k0_pay1, k0_pay2, k0_pay3, normRow, zero_add]

variable (m : (ℓ : Loc nD τ sig) → Buf (Elt Ideal) ℓ)

/-- The argument arrays. -/
abbrev argA (c : Dev nD) : FVec Ideal S16384x1024 .f32 := m ((c : Thread nD τ).loc main_arg0)
abbrev argB (c : Dev nD) : FVec Ideal S16384x1024 .f32 := m ((c : Thread nD τ).loc main_arg1)
abbrev argW (c : Dev nD) : FVec Ideal S2048x2048 .f32 := m ((c : Thread nD τ).loc main_arg2)
abbrev argX (c : Dev nD) : FVec Ideal S16384x2048 .f32 := m ((c : Thread nD τ).loc main_arg3)
abbrev argG (c : Dev nD) : FVec Ideal S2048 .f32 := m ((c : Thread nD τ).loc main_arg4)
abbrev argS (c : Dev nD) : FVec Ideal S2048 .f32 := m ((c : Thread nD τ).loc main_arg5)

/-- Where each window's block lies at point `t`. -/
theorem idx : ∀ t : Fin cfg0.N, win0_0.index t = ![t.val, 0] ∧ win0_1.index t = ![t.val, 0]
    ∧ win0_2.index t = ![0, 0] ∧ win0_3.index t = ![1, 0] ∧ win0_4.index t = ![t.val, 0]
    ∧ win0_5.index t = ![0, 0] ∧ win0_6.index t = ![0, 0] ∧ win0_7.index t = ![t.val, 0] :=
  (by decide +kernel : ∀ t : Fin grid0.N, _)

/-- A row of the `t`-th block as a row of the whole. -/
def row (t : Fin cfg0.N) (r : Fin 512) : Fin 16384 := ⟨512 * t.val + r.val, by
  have := t.isLt; have hN : cfg0.N = 32 := N_0; have := r.isLt; omega⟩

theorem blk_a (c : Dev nD) (t : Fin cfg0.N) (r : Fin 512) (k : Fin 1024) :
    (iblk m c 0 t : FVec Ideal S512x1024 .bf16) (ix2 r k) = argA m c (ix2 (row t r) k) := by
  blk_point [iblk, V, idx t]
  simp only [row]; omega

theorem blk_b (c : Dev nD) (t : Fin cfg0.N) (r : Fin 512) (k : Fin 1024) :
    (iblk m c 1 t : FVec Ideal S512x1024 .bf16) (ix2 r k) = argB m c (ix2 (row t r) k) := by
  blk_point [iblk, V, idx t]
  simp only [row]; omega

theorem blk_wa (c : Dev nD) (t : Fin cfg0.N) (k : Fin 1024) (q : Fin 2048) :
    (iblk m c 2 t : FVec Ideal S1024x2048 .bf16) (ix2 k q) = argW m c (ix2 (up k) q) := by
  unfold up
  blk_point [iblk, V, idx t]

theorem blk_wb (c : Dev nD) (t : Fin cfg0.N) (k : Fin 1024) (q : Fin 2048) :
    (iblk m c 3 t : FVec Ideal S1024x2048 .bf16) (ix2 k q) = argW m c (ix2 (low k) q) := by
  unfold low
  blk_point [iblk, V, idx t]

theorem blk_x (c : Dev nD) (t : Fin cfg0.N) (r : Fin 512) (q : Fin 2048) :
    (iblk m c 4 t : FVec Ideal S512x2048 .f32) (ix2 r q) = argX m c (ix2 (row t r) q) := by
  blk_point [iblk, V, idx t]
  simp only [row]; omega

theorem blk_g (c : Dev nD) (t : Fin cfg0.N) (q : Fin 2048) :
    (iblk m c 5 t : FVec Ideal S1x2048 .f32) (ix2 0 q) = argG m c (ix1 q) := by
  blk_point [iblk, V, idx t]

theorem blk_s (c : Dev nD) (t : Fin cfg0.N) (q : Fin 2048) :
    (iblk m c 6 t : FVec Ideal S1x2048 .f32) (ix2 0 q) = argS m c (ix1 q) := by
  blk_point [iblk, V, idx t]

/-- The array after the run is the reference's composed value of the argument arrays. -/
theorem result_eq (c : Dev nD) :
    (dats m 0 c).arrAt 7 cfg0.N = Cert.OutprojRefIdeal.Read.val_main_v28 (F := Ideal)
      (argA m c) (argB m c) (argW m c) (argX m c) (argG m c) (argS m c) := by
  refine (dats m 0 c).arrAt_eq_of_covers 7 _ (by decide +kernel) fun t hf y => ?_
  blk_simp
  rw [after0_7]
  frame_out
  obtain ⟨r, q, rfl⟩ : ∃ (r : Fin 512) (q : Fin 2048), y = ix2 r q :=
    ⟨y 0, y 1, by funext a; fin_cases a <;> rfl⟩
  refine (normal _ _ _ _ _ _ _ r q).trans ?_
  simp only [blk_a m c t, blk_b m c t, blk_wa m c t, blk_wb m c t, blk_x m c t, blk_g m c t, blk_s m c t]
  refine (ref_norm _ _ _ _ _ _ (row t r) q).symm.trans ?_
  refine congrArg _ ?_
  blk_ext [idx t]
  simp only [row]; omega

/-- The kernel's result over the extended reals is the reference's, on equal arguments. -/
theorem algebraic_Outproj : Cert.algebraic_OutprojIdeal_OutprojRefIdeal := by
  intro m g m' g' _ hagree
  refine ⟨fun c => (dats m 0 c).arrAt 7 cfg0.N, Cert.OutprojIdeal.Value.run_blocks m g, ?_⟩
  refine (θ_run _ _ _).mono (fun r h c => ⟨?_, (h c).2⟩) (Cert.OutprojRefIdeal.Value.run m' g')
  refine (h c).1.trans ?_
  rw [Cert.OutprojRefIdeal.Read.val_main_v28_eq, (hagree c).1, (hagree c).2.1, (hagree c).2.2.1, (hagree c).2.2.2.1,
    (hagree c).2.2.2.2.1, (hagree c).2.2.2.2.2]
  exact (result_eq m c).symm

end Cert.OutprojValue

end
-- ==== Proof.ChunkTile.lean ====
/-
  One tile of chunked attention: 256 queries against their window of 768 keys. What its scores, its exponentials and
  the stored quotient are, entry by entry.
-/
module

public import proofs.«01_k».proof.Proof.Gen.ChunkIdeal.Skeleton
public import Idealize.ShloMosaic.Lib.Pointwise

@[expose] public section

set_option maxRecDepth 16384

noncomputable section

namespace Cert.ChunkValue

open Idealize.ShloMosaic Idealize.ShloMosaic.Tactic
open Cert.ChunkIdeal Cert.ChunkIdeal.Gen

/-- The greatest of the scores. -/
def top {n : ℕ} (s : Fin n → EReal) : EReal := (Finset.univ : Finset (Fin n)).fold max ⊥ s

/-- The weighted mean of `v` with the exponentials of the scores as weights, the greatest score taken off. -/
def mean {n : ℕ} (s v : Fin n → EReal) : EReal :=
  Ideal.div (∑ k, v k * Ideal.exp (s k - top s)) (∑ k, Ideal.exp (s k - top s))

/-- The word of −∞. -/
theorem word_bot : Ideal.ofBits .f32 0xFF800000#32 = ⊥ := by
  simp [Ideal.ofBits, Ideal.ieee]

/-- The stored quotient: the weights' first 128 rows over row 128, both against the exponentials. -/
theorem attend_apply (s : FVec Ideal S768x256 .f32) (w : FVec Ideal S144x768 .bf16) (r : Fin 256) (d : Fin 128) :
    k0_pay2 (F := Ideal) s w (ix3 0 r d) = Ideal.div (∑ k : Fin 768, w (ix2 ⟨d.val, by omega⟩ k) * Ideal.exp (s (ix2 k r) - top fun k => s (ix2 k r)))
      (∑ k : Fin 768, w (ix2 128 k) * Ideal.exp (s (ix2 k r) - top fun k => s (ix2 k r))) := by
  pointwise [k0_pay2, zero_add, word_bot, top]

/-- Row `n` of two blocks of 512 rows laid one after the other. -/
def both (a b : FVec Ideal S1x512x128 .bf16) (n : Fin 1024) (d : Fin 128) : EReal :=
  if h : n.val < 512 then a (ix3 0 ⟨n.val, h⟩ d) else b (ix3 0 ⟨n.val - 512, by omega⟩ d)

/-- The key that window `j` (0 or 1) has at place `k`, counted from the start of the two blocks. -/
def key (j : Fin 2) (k : Fin 768) : Fin 1024 := ⟨256 * j.val + k.val, by omega⟩

/-- The first window laid together from the two blocks. -/
theorem both_first (a b : FVec Ideal S1x512x128 .bf16) (k : Fin 768) (d : Fin 128) :
    (if h : k.val < 512 then a (ix3 0 ⟨k.val, h⟩ d) else b (ix3 0 ⟨k.val - 512, by omega⟩ d)) = both a b (key 0 k) d := by
  by_cases h : k.val < 512 <;> simp [both, key, h]

/-- The second window laid together from the two blocks. -/
theorem both_second (a b : FVec Ideal S1x512x128 .bf16) (k : Fin 768) (d : Fin 128) :
    (if h : k.val < 256 then a (ix3 0 ⟨256 + k.val, by omega⟩ d) else b (ix3 0 ⟨k.val - 256, by omega⟩ d)) = both a b (key 1 k) d := by
  by_cases h : k.val < 256
  · have h' : 256 + k.val < 512 := by omega
    simp [both, key, h, h']
  · have h' : ¬256 + k.val < 512 := by omega
    rw [dif_neg h]
    unfold both
    rw [dif_neg (show ¬(key 1 k).val < 512 from h')]
    exact congrArg (fun n => b (ix3 0 n d)) (Fin.ext (by show k.val - 256 = 256 * 1 + k.val - 512; omega))

/-- The scores of the first 256 queries. -/
theorem score_first (kp kc : FVec Ideal S1x512x128 .bf16) (q : FVec Ideal S1x256x128 .bf16) (b : FVec Ideal S1x1x768x256 .f32)
    (k : Fin 768) (r : Fin 256) :
    k0_pay30 (F := Ideal) kp kc q b (ix2 k r) = (∑ d : Fin 128, both kp kc (key 0 k) d * q (ix3 0 r d)) + b (ix4 0 0 k r) := by
  pointwise [k0_pay30, k0_pay27, k0_pay28, zero_add]
  exact congrArg (· + _) (Finset.sum_congr rfl fun d _ => congrArg (· * _) (both_first kp kc k d))

/-- The scores of the last 256 queries. -/
theorem score_second (kp kc : FVec Ideal S1x512x128 .bf16) (q : FVec Ideal S1x256x128 .bf16) (b : FVec Ideal S1x1x768x256 .f32)
    (k : Fin 768) (r : Fin 256) :
    k0_pay31 (F := Ideal) (k0_pay29 kp kc) q b (ix2 k r) = (∑ d : Fin 128, both kp kc (key 1 k) d * q (ix3 0 r d)) + b (ix4 0 0 k r) := by
  pointwise [k0_pay31, k0_pay29, k0_pay27, k0_pay28, zero_add]
  exact congrArg (· + _) (Finset.sum_congr rfl fun d _ => congrArg (· * _) (both_second kp kc k d))

/-- The row of ones under the values. -/
theorem ones_apply (k : Fin 512) : k0_pay26 (F := Ideal) (ix2 0 k) = (1 : EReal) := by
  pointwise [k0_pay26]

/-- The query's chunk. -/
theorem qchunk (r : Fin 256) (k : Fin 1024) : k0_pay3 (ix2 r k) = BitVec.ofNat 32 (r.val / 64) := by
  pointwise [k0_pay3]
  clear k
  revert r
  decide +kernel

/-- The key's chunk, counted from the query block's first. -/
theorem kchunk (r : Fin 256) (k : Fin 1024) : k0_pay6 k0_pay4 k0_pay5 (ix2 r k) = BitVec.ofNat 32 (k.val / 64) - 8#32 := by
  pointwise [k0_pay6, k0_pay5, k0_pay4]
  clear r
  revert k
  decide +kernel

/-- The mask's named constant is −∞. -/
theorem mask_bot : (Named.named κ "mask" 0xF149F2CA#32 : Ideal .f32) = ⊥ := rfl

/-- The two comparisons of chunks, as numbers. -/
theorem near : ∀ (a : Fin 4) (b : Fin 16),
    (IntOp.cmpi .sle (BitVec.ofNat 32 b.val - 8#32) (BitVec.ofNat 32 a.val) = 1 ↔ b.val ≤ a.val + 8) ∧
    (IntOp.cmpi .sge (BitVec.ofNat 32 b.val - 8#32) (IntOp.subi (BitVec.ofNat 32 a.val) 8#32) = 1 ↔ a.val ≤ b.val) := by
  decide +kernel

/-- A query of the tile sees a key of its window if the key's chunk is its own or one of the eight before. -/
abbrev sees (k : Fin 768) (r : Fin 256) : Prop := k.val / 64 ≤ r.val / 64 + 8 ∧ r.val / 64 ≤ k.val / 64

/-- The tile of biases, cut out of the row `x` of biases by distance. -/
def band (x : Fin 1024 → EReal) (k : Fin 768) (r : Fin 256) : EReal :=
  if sees k r then x ⟨(k.val + (1024 - r.val)) % 1024, Nat.mod_lt _ (by norm_num)⟩ else ⊥

theorem band_apply (x : FVec Ideal S1x1x1024 .f32) (k : Fin 768) (r : Fin 256) :
    k0_pay12 (F := Ideal) k0_pay3 (k0_pay6 k0_pay4 k0_pay5) x (ix2 k r) = band (fun n => x (ix3 0 0 n)) k r := by
  pointwise [k0_pay12]
  simp only [qchunk, kchunk, mask_bot, Scalar.select, band]
  have h := near ⟨r.val / 64, by omega⟩ ⟨k.val / 64, by omega⟩
  simp only at h
  simp only [h.1, h.2]
  have hn : (⟨(k.val + 1024 - r.val % 1024) % 1024, Nat.mod_lt _ (by norm_num)⟩ : Fin 1024)
      = ⟨(k.val + (1024 - r.val)) % 1024, Nat.mod_lt _ (by norm_num)⟩ := Fin.ext (by
    show (k.val + 1024 - r.val % 1024) % 1024 = (k.val + (1024 - r.val)) % 1024
    omega)
  by_cases ha : k.val / 64 ≤ r.val / 64 + 8 <;> by_cases hb : r.val / 64 ≤ k.val / 64
  · rw [if_pos ha, if_pos hb, if_pos ⟨ha, hb⟩]
    exact congrArg (fun n => x (ix3 0 0 n)) hn
  · rw [if_pos ha, if_neg hb, if_neg fun h => hb h.2]
  · rw [if_neg ha, if_neg fun h => ha h.1]
  · rw [if_neg ha, if_neg fun h => ha h.1]

/-- The three kept tiles: the band itself, and the band with the keys before the first 512, or before the first 256, away. -/
def tile (x : Fin 1024 → EReal) (a : Fin 3) (k : Fin 768) (r : Fin 256) : EReal :=
  if k.val < (![0, 512, 256] a : ℕ) then ⊥ else band x k r

/-- The comparisons of the key's place, as numbers. -/
theorem from_word : ∀ k : Fin 768, (IntOp.cmpi .sge (BitVec.ofNat 32 k.val) 512#32 = 1 ↔ ¬k.val < 512) ∧
    (IntOp.cmpi .sge (BitVec.ofNat 32 k.val) 256#32 = 1 ↔ ¬k.val < 256) := by
  decide +kernel

theorem tile_zero (x : FVec Ideal S1x1x1024 .f32) (k : Fin 768) (r : Fin 256) :
    k0_pay13 (F := Ideal) k0_pay3 (k0_pay6 k0_pay4 k0_pay5) x (ix4 0 0 k r) = tile (fun n => x (ix3 0 0 n)) 0 k r := by
  pointwise [k0_pay13, band_apply, tile]
  simp

theorem tile_one (x : FVec Ideal S1x1x1024 .f32) (k : Fin 768) (r : Fin 256) :
    k0_pay9 (F := Ideal) k0_pay3 k0_pay4 k0_pay5 x (ix4 0 0 k r) = tile (fun n => x (ix3 0 0 n)) 1 k r := by
  have h : k0_pay7 (F := Ideal) k0_pay3 k0_pay4 k0_pay5 x (ix2 k r) = band (fun n => x (ix3 0 0 n)) k r := band_apply x k r
  have e : tile (fun n => x (ix3 0 0 n)) 1 k r = if k.val < 512 then ⊥ else band (fun n => x (ix3 0 0 n)) k r := rfl
  rw [e]
  pointwise [k0_pay9, mask_bot]
  simp only [h, Scalar.select, (from_word k).1, ite_not]

theorem tile_two (x : FVec Ideal S1x1x1024 .f32) (k : Fin 768) (r : Fin 256) :
    k0_pay11 (F := Ideal) (k0_pay10 k0_pay3 k0_pay4 k0_pay5 x) (ix4 0 0 k r) = tile (fun n => x (ix3 0 0 n)) 2 k r := by
  have h : k0_pay7 (F := Ideal) k0_pay3 k0_pay4 k0_pay5 x (ix2 k r) = band (fun n => x (ix3 0 0 n)) k r := band_apply x k r
  have e : tile (fun n => x (ix3 0 0 n)) 2 k r = if k.val < 256 then ⊥ else band (fun n => x (ix3 0 0 n)) k r := rfl
  rw [e]
  pointwise [k0_pay11, k0_pay10, mask_bot]
  simp only [h, Scalar.select, (from_word k).2, ite_not]

/-- The weights of the second window: the values of its keys. -/
theorem values_second (vp vc : FVec Ideal S1x512x128 .bf16) (d : Fin 128) (k : Fin 768) :
    k0_pay48 (F := Ideal) k0_pay26 vp vc (ix2 ⟨d.val, by omega⟩ k) = both vp vc (key 1 k) d := by
  have hd := d.isLt
  pointwise [k0_pay48, k0_pay47, k0_pay46]
  exact both_second vp vc k d

theorem ones_second (vp vc : FVec Ideal S1x512x128 .bf16) (k : Fin 768) :
    k0_pay48 (F := Ideal) k0_pay26 vp vc (ix2 128 k) = (1 : EReal) := by
  pointwise [k0_pay48, k0_pay47, k0_pay46]
  split_ifs <;> exact ones_apply _

/-- What is stored for the last 256 queries. -/
theorem half_second (kp kc vp vc : FVec Ideal S1x512x128 .bf16) (q : FVec Ideal S1x256x128 .bf16)
    (b : FVec Ideal S1x1x768x256 .f32) (r : Fin 256) (d : Fin 128) :
    k0_pay2 (F := Ideal) (k0_pay31 (k0_pay29 kp kc) q b) (k0_pay48 k0_pay26 vp vc) (ix3 0 r d)
      = mean (fun k => (∑ e : Fin 128, both kp kc (key 1 k) e * q (ix3 0 r e)) + b (ix4 0 0 k r)) (fun k => both vp vc (key 1 k) d) := by
  rw [attend_apply]
  simp only [score_second, values_second, ones_second, one_mul, mean]

/-- The weights of the first window, with the row of ones under the values. -/
def firstWeights (vp vc : FVec Ideal S1x512x128 .bf16) : FVec Ideal S144x768 .bf16 :=
  concatenate S144x768 1 [⟨S144x512, k0_pay46 (F := Ideal) k0_pay26 vp⟩,
    ⟨S144x256, extractStridedSlice S144x256 ![0, 0] (k0_pay47 (F := Ideal) k0_pay26 vc) slices_S144x512_o0_0_S144x256⟩]
    concatenates_S144x512_S144x256_S144x768_d1

theorem values_first (vp vc : FVec Ideal S1x512x128 .bf16) (d : Fin 128) (k : Fin 768) :
    firstWeights vp vc (ix2 ⟨d.val, by omega⟩ k) = both vp vc (key 0 k) d := by
  have hd := d.isLt
  pointwise [firstWeights, k0_pay47, k0_pay46]
  exact both_first vp vc k d

theorem ones_first (vp vc : FVec Ideal S1x512x128 .bf16) (k : Fin 768) : firstWeights vp vc (ix2 128 k) = (1 : EReal) := by
  pointwise [firstWeights, k0_pay47, k0_pay46]
  split_ifs <;> exact ones_apply _

/-- What is stored for the first 256 queries. -/
theorem half_first (kp kc vp vc : FVec Ideal S1x512x128 .bf16) (q : FVec Ideal S1x256x128 .bf16)
    (b : FVec Ideal S1x1x768x256 .f32) (r : Fin 256) (d : Fin 128) :
    k0_pay49 (F := Ideal) k0_pay26 (k0_pay30 kp kc q b) vp vc (ix3 0 r d)
      = mean (fun k => (∑ e : Fin 128, both kp kc (key 0 k) e * q (ix3 0 r e)) + b (ix4 0 0 k r)) (fun k => both vp vc (key 0 k) d) := by
  refine (attend_apply (k0_pay30 kp kc q b) (firstWeights vp vc) r d).trans ?_
  simp only [score_first, values_first, ones_first, one_mul, mean]

end Cert.ChunkValue

end
-- ==== Proof.ChunkBlock.lean ====
module

public import proofs.«01_k».proof.Proof.ChunkTile
public import proofs.«01_k».proof.Proof.Gen.ChunkIdeal.Value
public import Idealize.ShloMosaic.Lib.Pipeline.ValueKit
public import Idealize.ShloMosaic.Lib.Pipeline.ReadBack

@[expose] public section

set_option maxRecDepth 16384

noncomputable section

namespace Cert.ChunkValue

open Idealize.ShloMosaic Idealize.ShloMosaic.TcCoe Idealize.ShloMosaic.Tactic Idealize.SL.Sem
open Cert.ChunkIdeal Cert.ChunkIdeal.Gen

variable (m : (ℓ : Loc nD τ sig) → Buf (Elt Ideal) ℓ)

/-- Row `n` of two blocks of 512 rows laid one after the other, all four heads wide. -/
def rows (a b : FVec Ideal S1x512x512 .bf16) (n : Fin 1024) (x : Fin 512) : EReal :=
  if h : n.val < 512 then a (ix3 0 ⟨n.val, h⟩ x) else b (ix3 0 ⟨n.val - 512, by omega⟩ x)

/-- Column `d` of head `h`. -/
def col (h : Fin 4) (d : Fin 128) : Fin 512 := ⟨128 * h.val + d.val, by omega⟩

/-- Query `r` of half `j`. -/
def query (j : Fin 2) (r : Fin 256) : Fin 512 := ⟨256 * j.val + r.val, by omega⟩

/-- The attention of query `r` of half `j` of a block, at column `d` of head `h`, with the biases `b`. -/
def attend (q kp kc vp vc : FVec Ideal S1x512x512 .bf16) (b : Fin 768 → Fin 256 → EReal) (j : Fin 2) (h : Fin 4) (r : Fin 256)
    (d : Fin 128) : EReal :=
  mean (fun k => (∑ e : Fin 128, rows kp kc (key j k) (col h e) * q (ix3 0 (query j r) (col h e))) + b k r)
    (fun k => rows vp vc (key j k) (col h d))

/-- A head's columns of a block of keys or values, as loaded. -/
abbrev keys (a : FVec Ideal S1x512x512 .bf16) (off : Fin 3 → ℕ) (inb : ∀ i, off i + ![1, 512, 128] i ≤ S1x512x512.size i) :
    FVec Ideal S1x512x128 .bf16 :=
  View.ld (Val := Elt Ideal) (e' := .bf16) a (Rect.unit off ![1, 512, 128] inb)

/-- A head's columns of half a block of queries, as loaded. -/
abbrev queries (q : FVec Ideal S1x512x512 .bf16) (off : Fin 3 → ℕ) (inb : ∀ i, off i + ![1, 256, 128] i ≤ S1x512x512.size i) :
    FVec Ideal S1x256x128 .bf16 :=
  View.ld (Val := Elt Ideal) (e' := .bf16) q (Rect.unit off ![1, 256, 128] inb)

/-- A tile of the scratch, as loaded. -/
abbrev tiles (b : FVec Ideal S3x4x768x256 .f32) (off : Fin 4 → ℕ) (inb : ∀ i, off i + ![1, 1, 768, 256] i ≤ S3x4x768x256.size i) :
    FVec Ideal S1x1x768x256 .f32 :=
  View.ld (Val := Elt Ideal) (e' := .f32) b (Rect.unit off ![1, 1, 768, 256] inb)

/-- A head's two blocks are the head's columns of the two blocks. -/
theorem both_head (a b : FVec Ideal S1x512x512 .bf16) (h : Fin 4) {off : Fin 3 → ℕ} (inb : ∀ i, off i + ![1, 512, 128] i ≤ S1x512x512.size i)
    (ho : off = ![0, 0, 128 * h.val]) (n : Fin 1024) (d : Fin 128) :
    both (keys a off inb) (keys b off inb) n d = rows a b n (col h d) := by
  subst ho
  unfold both rows
  split
  · exact View.ld_unit_apply_of (Val := Elt Ideal) (e := .bf16) a _ _ inb _ _ (fun i => by fin_cases i <;> simp [col, ix3])
  · exact View.ld_unit_apply_of (Val := Elt Ideal) (e := .bf16) b _ _ inb _ _ (fun i => by fin_cases i <;> simp [col, ix3])

/-- A head's queries are the head's columns of the query block. -/
theorem query_head (q : FVec Ideal S1x512x512 .bf16) (j : Fin 2) (h : Fin 4) {off : Fin 3 → ℕ}
    (inb : ∀ i, off i + ![1, 256, 128] i ≤ S1x512x512.size i) (ho : off = ![0, 256 * j.val, 128 * h.val]) (r : Fin 256) (d : Fin 128) :
    queries q off inb (ix3 0 r d) = q (ix3 0 (query j r) (col h d)) := by
  subst ho
  exact View.ld_unit_apply_of (Val := Elt Ideal) (e := .bf16) q _ _ inb _ _ (fun i => by fin_cases i <;> simp [col, query, ix3])

/-- A tile of the scratch. -/
theorem tile_head (b : FVec Ideal S3x4x768x256 .f32) (a : Fin 3) (h : Fin 4) {off : Fin 4 → ℕ}
    (inb : ∀ i, off i + ![1, 1, 768, 256] i ≤ S3x4x768x256.size i) (ho : off = ![a.val, h.val, 0, 0]) (k : Fin 768) (r : Fin 256) :
    tiles b off inb (ix4 0 0 k r) = b (ix4 a h k r) := by
  subst ho
  exact View.ld_unit_apply_of (Val := Elt Ideal) (e := .f32) b _ _ inb _ _ (fun i => by fin_cases i <;> simp [ix4])

variable (q kp kc vp vc : FVec Ideal S1x512x512 .bf16)

/-- What is stored for the first half of a block's queries, for head `h`. -/
theorem first_half (h : Fin 4) {o1 : Fin 3 → ℕ} (i1 : ∀ i, o1 i + ![1, 512, 128] i ≤ S1x512x512.size i)
    {o2 : Fin 3 → ℕ} (i2 : ∀ i, o2 i + ![1, 256, 128] i ≤ S1x512x512.size i) (B : FVec Ideal S1x1x768x256 .f32)
    (b : Fin 768 → Fin 256 → EReal) (h1 : o1 = ![0, 0, 128 * h.val]) (h2 : o2 = ![0, 0, 128 * h.val])
    (hb : ∀ k r, B (ix4 0 0 k r) = b k r) (x : S1x256x128.Idx) :
    k0_pay49 (F := Ideal) k0_pay26 (k0_pay30 (keys kp o1 i1) (keys kc o1 i1)
      (queries q o2 i2) B) (keys vp o1 i1) (keys vc o1 i1) x
      = attend q kp kc vp vc b 0 h (x 1) (x 2) := by
  have hx : x = ix3 0 (x 1) (x 2) := by
    funext i; fin_cases i
    · exact Fin.ext (by have := (x 0).isLt; simp only [ix3]; exact Nat.lt_one_iff.mp this)
    · rfl
    · rfl
  refine (congrArg _ hx).trans ?_
  refine (half_first _ _ _ _ _ _ (x 1) (x 2)).trans ?_
  unfold attend
  congr 1
  · funext k
    refine congrArg₂ (· + ·) (Finset.sum_congr rfl fun e _ => ?_) (hb k (x 1))
    exact congrArg₂ (· * ·) (both_head kp kc h i1 h1 (key 0 k) e) (query_head q 0 h i2 h2 (x 1) e)
  · funext k
    exact both_head vp vc h i1 h1 _ _

/-- What is stored for the second half. -/
theorem second_half (h : Fin 4) {o1 : Fin 3 → ℕ} (i1 : ∀ i, o1 i + ![1, 512, 128] i ≤ S1x512x512.size i)
    {o2 : Fin 3 → ℕ} (i2 : ∀ i, o2 i + ![1, 256, 128] i ≤ S1x512x512.size i) (B : FVec Ideal S1x1x768x256 .f32)
    (b : Fin 768 → Fin 256 → EReal) (h1 : o1 = ![0, 0, 128 * h.val]) (h2 : o2 = ![0, 256, 128 * h.val])
    (hb : ∀ k r, B (ix4 0 0 k r) = b k r) (x : S1x256x128.Idx) :
    k0_pay2 (F := Ideal) (k0_pay31 (k0_pay29 (keys kp o1 i1) (keys kc o1 i1))
      (queries q o2 i2) B) (k0_pay48 k0_pay26 (keys vp o1 i1) (keys vc o1 i1)) x
      = attend q kp kc vp vc b 1 h (x 1) (x 2) := by
  have hx : x = ix3 0 (x 1) (x 2) := by
    funext i; fin_cases i
    · exact Fin.ext (by have := (x 0).isLt; simp only [ix3]; exact Nat.lt_one_iff.mp this)
    · rfl
    · rfl
  refine (congrArg _ hx).trans ?_
  refine (half_second _ _ _ _ _ _ (x 1) (x 2)).trans ?_
  unfold attend
  congr 1
  · funext k
    refine congrArg₂ (· + ·) (Finset.sum_congr rfl fun e _ => ?_) (hb k (x 1))
    exact congrArg₂ (· * ·) (both_head kp kc h i1 h1 (key 1 k) e) (query_head q 1 h i2 h2 (x 1) e)
  · funext k
    exact both_head vp vc h i1 h1 _ _

/-- Which of the three kinds of tile half `j` of a block reads: the blocks that are a sequence's first mask the
    keys before the sequence. -/
def kind (first : Prop) [Decidable first] (j : Fin 2) : Fin 3 := if first then ![1, 2] j else 0

/-- The block of the output. -/
def blockOut (b : Fin 2 → Fin 4 → Fin 768 → Fin 256 → EReal) (y : S1x512x512.Idx) : EReal :=
  attend q kp kc vp vc (b ⟨(y 1).val / 256, Nat.div_lt_of_lt_mul (y 1).isLt⟩ ⟨(y 2).val / 128, Nat.div_lt_of_lt_mul (y 2).isLt⟩)
    ⟨(y 1).val / 256, Nat.div_lt_of_lt_mul (y 1).isLt⟩ ⟨(y 2).val / 128, Nat.div_lt_of_lt_mul (y 2).isLt⟩
    ⟨(y 1).val % 256, Nat.mod_lt _ (by norm_num)⟩ ⟨(y 2).val % 128, Nat.mod_lt _ (by norm_num)⟩

/-- Where the four heads' tiles begin: the kind of tile comes from the block's number within its sequence. -/
theorem offs : ∀ t : Fin grid0.N,
    (k0_off1 (grid0.coords t) 1#32 = ![(kind (t.val % 16 = 0) 0).val, (0 : Fin 4).val, 0, 0] ∧
     k0_off1 (grid0.coords t) 2#32 = ![(kind (t.val % 16 = 0) 1).val, (0 : Fin 4).val, 0, 0]) ∧
    (k0_off2 (grid0.coords t) 1#32 = ![(kind (t.val % 16 = 0) 0).val, (1 : Fin 4).val, 0, 0] ∧
     k0_off2 (grid0.coords t) 2#32 = ![(kind (t.val % 16 = 0) 1).val, (1 : Fin 4).val, 0, 0]) ∧
    (k0_off3 (grid0.coords t) 1#32 = ![(kind (t.val % 16 = 0) 0).val, (2 : Fin 4).val, 0, 0] ∧
     k0_off3 (grid0.coords t) 2#32 = ![(kind (t.val % 16 = 0) 1).val, (2 : Fin 4).val, 0, 0]) ∧
    (k0_off4 (grid0.coords t) 1#32 = ![(kind (t.val % 16 = 0) 0).val, (3 : Fin 4).val, 0, 0] ∧
     k0_off4 (grid0.coords t) 2#32 = ![(kind (t.val % 16 = 0) 1).val, (3 : Fin 4).val, 0, 0]) := by
  decide +kernel

/-- An entry of the output block, by its half, head, row and column. -/
theorem blockOut_at (b : Fin 2 → Fin 4 → Fin 768 → Fin 256 → EReal) (j : Fin 2) (h : Fin 4) (r : Fin 256) (d : Fin 128)
    (y : S1x512x512.Idx) (h1 : (y 1).val = 256 * j.val + r.val) (h2 : (y 2).val = 128 * h.val + d.val) :
    attend q kp kc vp vc (b j h) j h r d = blockOut q kp kc vp vc b y := by
  have e1 : (⟨(y 1).val / 256, Nat.div_lt_of_lt_mul (y 1).isLt⟩ : Fin 2) = j := Fin.ext (by show (y 1).val / 256 = _; omega)
  have e2 : (⟨(y 2).val / 128, Nat.div_lt_of_lt_mul (y 2).isLt⟩ : Fin 4) = h := Fin.ext (by show (y 2).val / 128 = _; omega)
  have e3 : (⟨(y 1).val % 256, Nat.mod_lt _ (by norm_num)⟩ : Fin 256) = r := Fin.ext (by show (y 1).val % 256 = _; omega)
  have e4 : (⟨(y 2).val % 128, Nat.mod_lt _ (by norm_num)⟩ : Fin 128) = d := Fin.ext (by show (y 2).val % 128 = _; omega)
  unfold blockOut
  rw [e1, e2, e3, e4]

/-- The first half's lemma at the block's index `y`. -/
theorem first_at (b : Fin 2 → Fin 4 → Fin 768 → Fin 256 → EReal) (h : Fin 4) {o1 : Fin 3 → ℕ}
    (i1 : ∀ i, o1 i + ![1, 512, 128] i ≤ S1x512x512.size i)
    {o2 : Fin 3 → ℕ} (i2 : ∀ i, o2 i + ![1, 256, 128] i ≤ S1x512x512.size i) (T : FVec Ideal S3x4x768x256 .f32) (a : Fin 3)
    {o3 : Fin 4 → ℕ} (i3 : ∀ i, o3 i + ![1, 1, 768, 256] i ≤ S3x4x768x256.size i)
    (h1 : o1 = ![0, 0, 128 * h.val]) (h2 : o2 = ![0, 0, 128 * h.val]) (h3 : o3 = ![a.val, h.val, 0, 0])
    (hb : ∀ k r, T (ix4 a h k r) = b 0 h k r) (x : S1x256x128.Idx) (y : S1x512x512.Idx)
    (hy : ∀ i, (y i : ℕ) = o2 i + x i) :
    k0_pay49 (F := Ideal) k0_pay26 (k0_pay30 (keys kp o1 i1) (keys kc o1 i1)
      (queries q o2 i2) (tiles T o3 i3))
      (keys vp o1 i1) (keys vc o1 i1) x
      = blockOut q kp kc vp vc b y :=
  (first_half q kp kc vp vc h i1 i2 _ (b 0 h) h1 h2 (fun k r => (tile_head T a h i3 h3 k r).trans (hb k r)) x).trans
    (blockOut_at q kp kc vp vc b 0 h (x 1) (x 2) y (by rw [hy 1, h2]; rfl) (by rw [hy 2, h2]; rfl))

/-- The second half's lemma at the block's index `y`. -/
theorem second_at (b : Fin 2 → Fin 4 → Fin 768 → Fin 256 → EReal) (h : Fin 4) {o1 : Fin 3 → ℕ}
    (i1 : ∀ i, o1 i + ![1, 512, 128] i ≤ S1x512x512.size i)
    {o2 : Fin 3 → ℕ} (i2 : ∀ i, o2 i + ![1, 256, 128] i ≤ S1x512x512.size i) (T : FVec Ideal S3x4x768x256 .f32) (a : Fin 3)
    {o3 : Fin 4 → ℕ} (i3 : ∀ i, o3 i + ![1, 1, 768, 256] i ≤ S3x4x768x256.size i)
    (h1 : o1 = ![0, 0, 128 * h.val]) (h2 : o2 = ![0, 256, 128 * h.val]) (h3 : o3 = ![a.val, h.val, 0, 0])
    (hb : ∀ k r, T (ix4 a h k r) = b 1 h k r) (x : S1x256x128.Idx) (y : S1x512x512.Idx)
    (hy : ∀ i, (y i : ℕ) = o2 i + x i) :
    k0_pay2 (F := Ideal) (k0_pay31 (k0_pay29 (keys kp o1 i1) (keys kc o1 i1))
      (queries q o2 i2) (tiles T o3 i3))
      (k0_pay48 k0_pay26 (keys vp o1 i1) (keys vc o1 i1)) x
      = blockOut q kp kc vp vc b y :=
  (second_half q kp kc vp vc h i1 i2 _ (b 1 h) h1 h2 (fun k r => (tile_head T a h i3 h3 k r).trans (hb k r)) x).trans
    (blockOut_at q kp kc vp vc b 1 h (x 1) (x 2) y (by rw [hy 1, h2]; rfl) (by rw [hy 2, h2]; rfl))

/-- The four heads' rows of biases by distance, as they are at point `t`. -/
def biases (c : Dev nD) (t : Fin cfg0.N) (h : Fin 4) (n : Fin 1024) : EReal := iblk m c 5 t (ix3 h 0 n)

/-- The biases that half `j`, head `h` of the block at point `t` reads. -/
def bias (c : Dev nD) (t : Fin cfg0.N) (j : Fin 2) (h : Fin 4) : Fin 768 → Fin 256 → EReal :=
  tile (biases m c t h) (kind (t.val % 16 = 0) j)

/-- The block computed at point `t`. -/
def outBlock (c : Dev nD) (t : Fin cfg0.N) : S1x512x512.Idx → EReal :=
  blockOut (iblk m c 0 t) (iblk m c 1 t) (iblk m c 2 t) (iblk m c 3 t) (iblk m c 4 t) (bias m c t)

/-- At a point that makes no tiles the block is computed from the tiles kept, and they are kept again. -/
theorem later_point (c : Dev nD) (t : Fin cfg0.N) (h0 : ¬t.val % 32 = 0)
    (hk : ∀ a h k r, (outsAt0 m c (t.val - 1) (Nat.lt_of_le_of_lt (Nat.sub_le _ _) t.isLt)).2 (ix4 a h k r) = tile (biases m c t h) a k r) :
    outsAt0 m c t.val t.isLt = (outBlock m c t, (outsAt0 m c (t.val - 1) (Nat.lt_of_le_of_lt (Nat.sub_le _ _) t.isLt)).2) := by
  rw [outsAt0_B m c t h0]
  refine Prod.ext ?_ ?_
  · frame_out
    simp only [read_unread_whole]
    funext y
    obtain ⟨⟨a1, a2⟩, ⟨b1, b2⟩, ⟨c1, c2⟩, ⟨d1, d2⟩⟩ := offs t
    change _ = outBlock m c t y
    canon_tiles x h
    case piece0 =>
      refine second_at _ _ _ _ _ _ 3 _ _ _ _ _ rfl rfl d2 (fun k r => hk _ _ k r) x y fun i => ?_
      fin_cases i <;> first | assumption | exact h0.trans (Nat.zero_add _).symm | exact h1.trans (Nat.zero_add _).symm | exact h2.trans (Nat.zero_add _).symm
    case piece1 =>
      refine first_at _ _ _ _ _ _ 3 _ _ _ _ _ rfl rfl d1 (fun k r => hk _ _ k r) x y fun i => ?_
      fin_cases i <;> first | assumption | exact h0.trans (Nat.zero_add _).symm | exact h1.trans (Nat.zero_add _).symm | exact h2.trans (Nat.zero_add _).symm
    case piece2 =>
      refine second_at _ _ _ _ _ _ 2 _ _ _ _ _ rfl rfl c2 (fun k r => hk _ _ k r) x y fun i => ?_
      fin_cases i <;> first | assumption | exact h0.trans (Nat.zero_add _).symm | exact h1.trans (Nat.zero_add _).symm | exact h2.trans (Nat.zero_add _).symm
    case piece3 =>
      refine first_at _ _ _ _ _ _ 2 _ _ _ _ _ rfl rfl c1 (fun k r => hk _ _ k r) x y fun i => ?_
      fin_cases i <;> first | assumption | exact h0.trans (Nat.zero_add _).symm | exact h1.trans (Nat.zero_add _).symm | exact h2.trans (Nat.zero_add _).symm
    case piece4 =>
      refine second_at _ _ _ _ _ _ 1 _ _ _ _ _ rfl rfl b2 (fun k r => hk _ _ k r) x y fun i => ?_
      fin_cases i <;> first | assumption | exact h0.trans (Nat.zero_add _).symm | exact h1.trans (Nat.zero_add _).symm | exact h2.trans (Nat.zero_add _).symm
    case piece5 =>
      refine first_at _ _ _ _ _ _ 1 _ _ _ _ _ rfl rfl b1 (fun k r => hk _ _ k r) x y fun i => ?_
      fin_cases i <;> first | assumption | exact h0.trans (Nat.zero_add _).symm | exact h1.trans (Nat.zero_add _).symm | exact h2.trans (Nat.zero_add _).symm
    case piece6 =>
      refine second_at _ _ _ _ _ _ 0 _ _ _ _ _ rfl rfl a2 (fun k r => hk _ _ k r) x y fun i => ?_
      fin_cases i <;> first | assumption | exact h0.trans (Nat.zero_add _).symm | exact h1.trans (Nat.zero_add _).symm | exact h2.trans (Nat.zero_add _).symm
    case piece7 =>
      refine first_at _ _ _ _ _ _ 0 _ _ _ _ _ rfl rfl a1 (fun k r => hk _ _ k r) x y fun i => ?_
      fin_cases i <;> first | assumption | exact h0.trans (Nat.zero_add _).symm | exact h1.trans (Nat.zero_add _).symm | exact h2.trans (Nat.zero_add _).symm
  · rfl

/-- A head's row of biases, as loaded. -/
abbrev rowOf (x : FVec Ideal S4x1x1024 .f32) (off : Fin 3 → ℕ) (inb : ∀ i, off i + ![1, 1, 1024] i ≤ S4x1x1024.size i) :
    FVec Ideal S1x1x1024 .f32 :=
  View.ld (Val := Elt Ideal) (e' := .f32) x (Rect.unit off ![1, 1, 1024] inb)

/-- A head's row of biases is the head's row of the block. -/
theorem row_head (x : FVec Ideal S4x1x1024 .f32) (h : Fin 4) {off : Fin 3 → ℕ} (inb : ∀ i, off i + ![1, 1, 1024] i ≤ S4x1x1024.size i)
    (ho : off = ![h.val, 0, 0]) (n : Fin 1024) : rowOf x off inb (ix3 0 0 n) = x (ix3 h 0 n) := by
  subst ho
  exact View.ld_unit_apply_of (Val := Elt Ideal) (e := .f32) x _ _ inb _ _ (fun i => by fin_cases i <;> simp [ix3])

/-- An index of one stored tile. -/
theorem tile_index (x : S1x1x768x256.Idx) : x = ix4 0 0 (x 2) (x 3) := by
  funext i
  fin_cases i
  · exact Fin.ext (by have := (x 0).isLt; simp only [ix4]; exact Nat.lt_one_iff.mp this)
  · exact Fin.ext (by have := (x 1).isLt; simp only [ix4]; exact Nat.lt_one_iff.mp this)
  · rfl
  · rfl

/-- The scratch after the tiles are made. -/
def made (x : FVec Ideal S4x1x1024 .f32) (y : S3x4x768x256.Idx) : EReal := tile (fun n => x (ix3 (y 1) 0 n)) (y 0) (y 2) (y 3)

/-- An entry of the scratch, by its kind of tile, head, key and query. -/
theorem made_at (x5 : FVec Ideal S4x1x1024 .f32) (a : Fin 3) (h : Fin 4) {off : Fin 3 → ℕ}
    (inb : ∀ i, off i + ![1, 1, 1024] i ≤ S4x1x1024.size i) (ho : off = ![h.val, 0, 0]) (x : S1x1x768x256.Idx) (y : S3x4x768x256.Idx)
    (hy : ∀ i, (y i : ℕ) = ![a.val, h.val, 0, 0] i + x i) :
    tile (fun n => rowOf x5 off inb (ix3 0 0 n)) a (x 2) (x 3) = made x5 y := by
  have e0 : y 0 = a := Fin.ext (by have := hy 0; have h' := (x 0).isLt; simp only [Matrix.cons_val_zero] at this; have h'' : (x 0).val = 0 := Nat.lt_one_iff.mp h'; omega)
  have e1 : y 1 = h := Fin.ext (by have := hy 1; have h' := (x 1).isLt; simp only [Matrix.cons_val_one, Matrix.cons_val_zero] at this; have h'' : (x 1).val = 0 := Nat.lt_one_iff.mp h'; omega)
  have e2 : y 2 = x 2 := Fin.ext ((hy 2).trans (Nat.zero_add _))
  have e3 : y 3 = x 3 := Fin.ext ((hy 3).trans (Nat.zero_add _))
  unfold made
  rw [e0, e1, e2, e3]
  exact congrArg (fun f => tile f a (x 2) (x 3)) (funext fun n => row_head x5 h inb ho n)

/-- The three kinds of tile, at the scratch's index `y`. -/
theorem zero_at (x5 : FVec Ideal S4x1x1024 .f32) (h : Fin 4) {off : Fin 3 → ℕ}
    (inb : ∀ i, off i + ![1, 1, 1024] i ≤ S4x1x1024.size i) (ho : off = ![h.val, 0, 0]) (x : S1x1x768x256.Idx) (y : S3x4x768x256.Idx)
    (hy : ∀ i, (y i : ℕ) = ![0, h.val, 0, 0] i + x i) :
    k0_pay13 (F := Ideal) k0_pay3 (k0_pay6 k0_pay4 k0_pay5) (rowOf x5 off inb) x = made x5 y :=
  ((congrArg _ (tile_index x)).trans (tile_zero _ (x 2) (x 3))).trans (made_at x5 0 h inb ho x y hy)

theorem one_at (x5 : FVec Ideal S4x1x1024 .f32) (h : Fin 4) {off : Fin 3 → ℕ}
    (inb : ∀ i, off i + ![1, 1, 1024] i ≤ S4x1x1024.size i) (ho : off = ![h.val, 0, 0]) (x : S1x1x768x256.Idx) (y : S3x4x768x256.Idx)
    (hy : ∀ i, (y i : ℕ) = ![1, h.val, 0, 0] i + x i) :
    k0_pay9 (F := Ideal) k0_pay3 k0_pay4 k0_pay5 (rowOf x5 off inb) x = made x5 y :=
  ((congrArg _ (tile_index x)).trans (tile_one _ (x 2) (x 3))).trans (made_at x5 1 h inb ho x y hy)

theorem two_at (x5 : FVec Ideal S4x1x1024 .f32) (h : Fin 4) {off : Fin 3 → ℕ}
    (inb : ∀ i, off i + ![1, 1, 1024] i ≤ S4x1x1024.size i) (ho : off = ![h.val, 0, 0]) (x : S1x1x768x256.Idx) (y : S3x4x768x256.Idx)
    (hy : ∀ i, (y i : ℕ) = ![2, h.val, 0, 0] i + x i) :
    k0_pay11 (F := Ideal) (k0_pay10 k0_pay3 k0_pay4 k0_pay5 (rowOf x5 off inb)) x = made x5 y :=
  ((congrArg _ (tile_index x)).trans (tile_two _ (x 2) (x 3))).trans (made_at x5 2 h inb ho x y hy)

/-- At a point that makes the tiles the scratch is left holding them. -/
theorem first_scratch (c : Dev nD) (t : Fin cfg0.N) (h0 : t.val % 32 = 0) :
    (outsAt0 m c t.val t.isLt).2 = made (iblk m c 5 t) := by
  rw [outsAt0_A m c t h0]
  frame_out
  funext y
  change _ = made (iblk m c 5 t) y
  canon_tiles x h
  case piece0 =>
    refine two_at _ 3 _ rfl x y fun i => ?_
    fin_cases i <;> first | assumption | exact h0.trans (Nat.zero_add _).symm | exact h1.trans (Nat.zero_add _).symm | exact h2.trans (Nat.zero_add _).symm | exact h3.trans (Nat.zero_add _).symm
  case piece1 =>
    refine one_at _ 3 _ rfl x y fun i => ?_
    fin_cases i <;> first | assumption | exact h0.trans (Nat.zero_add _).symm | exact h1.trans (Nat.zero_add _).symm | exact h2.trans (Nat.zero_add _).symm | exact h3.trans (Nat.zero_add _).symm
  case piece2 =>
    refine zero_at _ 3 _ rfl x y fun i => ?_
    fin_cases i <;> first | assumption | exact h0.trans (Nat.zero_add _).symm | exact h1.trans (Nat.zero_add _).symm | exact h2.trans (Nat.zero_add _).symm | exact h3.trans (Nat.zero_add _).symm
  case piece3 =>
    refine two_at _ 2 _ rfl x y fun i => ?_
    fin_cases i <;> first | assumption | exact h0.trans (Nat.zero_add _).symm | exact h1.trans (Nat.zero_add _).symm | exact h2.trans (Nat.zero_add _).symm | exact h3.trans (Nat.zero_add _).symm
  case piece4 =>
    refine one_at _ 2 _ rfl x y fun i => ?_
    fin_cases i <;> first | assumption | exact h0.trans (Nat.zero_add _).symm | exact h1.trans (Nat.zero_add _).symm | exact h2.trans (Nat.zero_add _).symm | exact h3.trans (Nat.zero_add _).symm
  case piece5 =>
    refine zero_at _ 2 _ rfl x y fun i => ?_
    fin_cases i <;> first | assumption | exact h0.trans (Nat.zero_add _).symm | exact h1.trans (Nat.zero_add _).symm | exact h2.trans (Nat.zero_add _).symm | exact h3.trans (Nat.zero_add _).symm
  case piece6 =>
    refine two_at _ 1 _ rfl x y fun i => ?_
    fin_cases i <;> first | assumption | exact h0.trans (Nat.zero_add _).symm | exact h1.trans (Nat.zero_add _).symm | exact h2.trans (Nat.zero_add _).symm | exact h3.trans (Nat.zero_add _).symm
  case piece7 =>
    refine one_at _ 1 _ rfl x y fun i => ?_
    fin_cases i <;> first | assumption | exact h0.trans (Nat.zero_add _).symm | exact h1.trans (Nat.zero_add _).symm | exact h2.trans (Nat.zero_add _).symm | exact h3.trans (Nat.zero_add _).symm
  case piece8 =>
    refine zero_at _ 1 _ rfl x y fun i => ?_
    fin_cases i <;> first | assumption | exact h0.trans (Nat.zero_add _).symm | exact h1.trans (Nat.zero_add _).symm | exact h2.trans (Nat.zero_add _).symm | exact h3.trans (Nat.zero_add _).symm
  case piece9 =>
    refine two_at _ 0 _ rfl x y fun i => ?_
    fin_cases i <;> first | assumption | exact h0.trans (Nat.zero_add _).symm | exact h1.trans (Nat.zero_add _).symm | exact h2.trans (Nat.zero_add _).symm | exact h3.trans (Nat.zero_add _).symm
  case piece10 =>
    refine one_at _ 0 _ rfl x y fun i => ?_
    fin_cases i <;> first | assumption | exact h0.trans (Nat.zero_add _).symm | exact h1.trans (Nat.zero_add _).symm | exact h2.trans (Nat.zero_add _).symm | exact h3.trans (Nat.zero_add _).symm
  case piece11 =>
    refine zero_at _ 0 _ rfl x y fun i => ?_
    fin_cases i <;> first | assumption | exact h0.trans (Nat.zero_add _).symm | exact h1.trans (Nat.zero_add _).symm | exact h2.trans (Nat.zero_add _).symm | exact h3.trans (Nat.zero_add _).symm

/-- At such a point the block is computed from the tiles made. -/
theorem first_point (c : Dev nD) (t : Fin cfg0.N) (h0 : t.val % 32 = 0) :
    (outsAt0 m c t.val t.isLt).1 = outBlock m c t := by
  have hs := first_scratch m c t h0
  rw [outsAt0_A m c t h0] at hs ⊢
  dsimp only at hs ⊢
  frame_out
  funext y
  obtain ⟨⟨a1, a2⟩, ⟨b1, b2⟩, ⟨c1, c2⟩, ⟨d1, d2⟩⟩ := offs t
  change _ = outBlock m c t y
  canon_tiles x h
  case piece0 =>
    refine second_at _ _ _ _ _ _ 3 _ _ _ _ _ rfl rfl d2 (fun k r => ?_) x y fun i => ?_
    · refine Eq.trans ?_ (congrFun hs (ix4 _ _ k r))
      frame_out
      rfl
    fin_cases i <;> first | assumption | exact h0.trans (Nat.zero_add _).symm | exact h1.trans (Nat.zero_add _).symm | exact h2.trans (Nat.zero_add _).symm
  case piece1 =>
    refine first_at _ _ _ _ _ _ 3 _ _ _ _ _ rfl rfl d1 (fun k r => ?_) x y fun i => ?_
    · refine Eq.trans ?_ (congrFun hs (ix4 _ _ k r))
      frame_out
      rfl
    fin_cases i <;> first | assumption | exact h0.trans (Nat.zero_add _).symm | exact h1.trans (Nat.zero_add _).symm | exact h2.trans (Nat.zero_add _).symm
  case piece2 =>
    refine second_at _ _ _ _ _ _ 2 _ _ _ _ _ rfl rfl c2 (fun k r => ?_) x y fun i => ?_
    · refine Eq.trans ?_ (congrFun hs (ix4 _ _ k r))
      frame_out
      rfl
    fin_cases i <;> first | assumption | exact h0.trans (Nat.zero_add _).symm | exact h1.trans (Nat.zero_add _).symm | exact h2.trans (Nat.zero_add _).symm
  case piece3 =>
    refine first_at _ _ _ _ _ _ 2 _ _ _ _ _ rfl rfl c1 (fun k r => ?_) x y fun i => ?_
    · refine Eq.trans ?_ (congrFun hs (ix4 _ _ k r))
      frame_out
      rfl
    fin_cases i <;> first | assumption | exact h0.trans (Nat.zero_add _).symm | exact h1.trans (Nat.zero_add _).symm | exact h2.trans (Nat.zero_add _).symm
  case piece4 =>
    refine second_at _ _ _ _ _ _ 1 _ _ _ _ _ rfl rfl b2 (fun k r => ?_) x y fun i => ?_
    · refine Eq.trans ?_ (congrFun hs (ix4 _ _ k r))
      frame_out
      rfl
    fin_cases i <;> first | assumption | exact h0.trans (Nat.zero_add _).symm | exact h1.trans (Nat.zero_add _).symm | exact h2.trans (Nat.zero_add _).symm
  case piece5 =>
    refine first_at _ _ _ _ _ _ 1 _ _ _ _ _ rfl rfl b1 (fun k r => ?_) x y fun i => ?_
    · refine Eq.trans ?_ (congrFun hs (ix4 _ _ k r))
      frame_out
      rfl
    fin_cases i <;> first | assumption | exact h0.trans (Nat.zero_add _).symm | exact h1.trans (Nat.zero_add _).symm | exact h2.trans (Nat.zero_add _).symm
  case piece6 =>
    refine second_at _ _ _ _ _ _ 0 _ _ _ _ _ rfl rfl a2 (fun k r => ?_) x y fun i => ?_
    · refine Eq.trans ?_ (congrFun hs (ix4 _ _ k r))
      frame_out
      rfl
    fin_cases i <;> first | assumption | exact h0.trans (Nat.zero_add _).symm | exact h1.trans (Nat.zero_add _).symm | exact h2.trans (Nat.zero_add _).symm
  case piece7 =>
    refine first_at _ _ _ _ _ _ 0 _ _ _ _ _ rfl rfl a1 (fun k r => ?_) x y fun i => ?_
    · refine Eq.trans ?_ (congrFun hs (ix4 _ _ k r))
      frame_out
      rfl
    fin_cases i <;> first | assumption | exact h0.trans (Nat.zero_add _).symm | exact h1.trans (Nat.zero_add _).symm | exact h2.trans (Nat.zero_add _).symm

/-- Within a run of 32 points the rows of biases are the same. -/
theorem biases_same (c : Dev nD) (t : Fin cfg0.N) (h0 : ¬t.val % 32 = 0) :
    biases m c ⟨t.val - 1, Nat.lt_of_le_of_lt (Nat.sub_le _ _) t.isLt⟩ = biases m c t := by
  have idx : ∀ t : Fin cfg0.N, win0_5.index t = ![t.val / 32, 0, 0] := (by decide +kernel : ∀ t : Fin grid0.N, _)
  funext h n
  unfold biases
  blk_ext [iblk, idx t, idx ⟨t.val - 1, Nat.lt_of_le_of_lt (Nat.sub_le _ _) t.isLt⟩]

/-- After every point the scratch holds the tiles made from the rows of biases. -/
theorem scratch (c : Dev nD) : ∀ (n : ℕ) (hn : n < cfg0.N) (a : Fin 3) (h : Fin 4) (k : Fin 768) (r : Fin 256),
    (outsAt0 m c n hn).2 (ix4 a h k r) = tile (biases m c ⟨n, hn⟩ h) a k r := by
  intro n
  induction n using Nat.strong_induction_on with
  | _ n ih =>
    intro hn a h k r
    by_cases h0 : n % 32 = 0
    · rw [first_scratch m c ⟨n, hn⟩ h0]
      rfl
    · have hlt : n - 1 < n := by omega
      have hk := ih (n - 1) hlt (Nat.lt_of_le_of_lt (Nat.sub_le _ _) hn)
      have hb := biases_same m c ⟨n, hn⟩ h0
      rw [later_point m c ⟨n, hn⟩ h0 (fun a h k r => (hk a h k r).trans (congrArg (fun f => tile (f h) a k r) hb))]
      exact (hk a h k r).trans (congrArg (fun f => tile (f h) a k r) hb)

/-- At every point the block stored is the attention of its queries, with the tiles made from the rows of biases. -/
theorem block (c : Dev nD) (t : Fin cfg0.N) : (outsAt0 m c t.val t.isLt).1 = outBlock m c t := by
  by_cases h0 : t.val % 32 = 0
  · exact first_point m c t h0
  · rw [later_point m c t h0 fun a h k r => (scratch m c _ _ a h k r).trans
      (congrArg (fun f => tile (f h) a k r) (biases_same m c t h0))]

end Cert.ChunkValue

end
-- ==== Proof.ChunkArray.lean ====
/-
  The array that chunked attention leaves: each entry is the weighted mean of a window of 768 values, read off the
  argument arrays.
-/
module

public import proofs.«01_k».proof.Proof.ChunkBlock

@[expose] public section

set_option maxRecDepth 16384

noncomputable section

namespace Cert.ChunkValue

open Idealize.ShloMosaic Idealize.ShloMosaic.TcCoe Idealize.ShloMosaic.Tactic Idealize.SL.Sem
open Cert.ChunkIdeal Cert.ChunkIdeal.Gen

/-- The factor on the queries: 128^(-1/2), rounded to f32. -/
abbrev scale : EReal := Ideal.ofBits .f32 0x3DB504F3#32

/-- The factor of projection column `q`. -/
def fac (q : Fin 6144) : EReal :=
  if q.val < 1024 then Ideal.ofBits .f32 0x3E0293EE#32 else if q.val < 3072 then 1 else if q.val < 4096 then scale else 1

/-- The place in the table of biases of place `n` of the row by distance. -/
def place (n : Fin 1024) : Fin 320 :=
  ⟨if n.val < 256 then 319 else if n.val < 576 then 575 - n.val else 319, by split_ifs <;> omega⟩

/-- Columns of head `H`: queries, keys and values. -/
def qcol (H : Fin 8) (e : Fin 128) : Fin 6144 := ⟨3072 + 128 * H.val + e.val, by omega⟩
def kcol (H : Fin 8) (e : Fin 128) : Fin 6144 := ⟨4096 + 128 * H.val + e.val, by omega⟩
def vcol (H : Fin 8) (e : Fin 128) : Fin 6144 := ⟨5120 + 128 * H.val + e.val, by omega⟩

/-- The sequence's row that is key `k` of the window of half `j` of block `i`; for the first block the rows before the
    sequence are stood for by the block's own. -/
def abskey (i : Fin 16) (j : Fin 2) (k : Fin 768) : Fin 8192 :=
  ⟨if 256 * j.val + k.val < 512 then 512 * (i.val - 1) + (256 * j.val + k.val) else 512 * i.val + (256 * j.val + k.val - 512),
    by split_ifs <;> omega⟩

/-- The sequence's row that is query `r` of half `j` of block `i`. -/
def absquery (i : Fin 16) (j : Fin 2) (r : Fin 256) : Fin 8192 := ⟨512 * i.val + 256 * j.val + r.val, by omega⟩

/-- The scores of a window's keys. -/
def winScore (u : FVec Ideal S2x8192x6144 .f32) (rb : FVec Ideal S8x320 .f32) (b : Fin 2) (i : Fin 16) (j : Fin 2) (r : Fin 256)
    (H : Fin 8) (k : Fin 768) : EReal :=
  (∑ e : Fin 128, u (ix3 b (abskey i j k) (kcol H e)) * (u (ix3 b (absquery i j r) (qcol H e)) * scale))
    + tile (fun n => rb (ix2 H (place n))) (kind (i.val = 0) j) k r

/-- The kernel's result at query `r` of half `j` of block `i`, head `H`, column `d`. -/
def winMean (u : FVec Ideal S2x8192x6144 .f32) (rb : FVec Ideal S8x320 .f32) (b : Fin 2) (i : Fin 16) (j : Fin 2) (r : Fin 256)
    (H : Fin 8) (d : Fin 128) : EReal :=
  mean (winScore u rb b i j r H) (fun k => u (ix3 b (abskey i j k) (vcol H d)))

variable (m : (ℓ : Loc nD τ sig) → Buf (Elt Ideal) ℓ)

/-- The argument arrays: the projections and the table of biases. -/
abbrev argU (c : Dev nD) : FVec Ideal S2x8192x6144 .f32 := m ((c : Thread nD τ).loc main_arg0)
abbrev argB (c : Dev nD) : FVec Ideal S8x320 .f32 := m ((c : Thread nD τ).loc main_arg1)

/-- A vector of 1024 equal places. -/
abbrev flat (v : FVec Ideal S_ .f32) : FVec Ideal S1024 .f32 := broadcastInDim S1024 ![] bcast_S_S1024 v

/-- The six groups of column factors, joined. -/
def groups : FVec Ideal S6144 .f32 :=
  concatenate S6144 0
    [⟨S1024, mulf (flat (constant S_ .f32 0x3F800000#32)) (flat (constant S_ .f32 0x3E0293EE#32))⟩,
     ⟨S1024, flat (constant S_ .f32 0x3F800000#32)⟩, ⟨S1024, flat (constant S_ .f32 0x3F800000#32)⟩,
     ⟨S1024, mulf (flat (constant S_ .f32 0x3F800000#32)) (flat (constant S_ .f32 0x3DB504F3#32))⟩,
     ⟨S1024, flat (constant S_ .f32 0x3F800000#32)⟩, ⟨S1024, flat (constant S_ .f32 0x3F800000#32)⟩]
    concatenates_S1024_S1024_S1024_S1024_S1024_S1024_S6144_d0

/-- The joined groups, place by place. -/
theorem groups_apply (q : Fin 6144) : groups (ix1 q) = fac q := by
  have hq := q.isLt
  unfold fac groups flat
  by_cases h1 : q.val < 1024
  · pointwise [h1]
  by_cases h2 : q.val < 3072
  · pointwise [h1, h2]
    split_ifs <;> first | rfl | omega
  by_cases h3 : q.val < 4096
  · pointwise [h1, h2, h3]
    split_ifs <;> first | rfl | omega
  · pointwise [h1, h2, h3]
    split_ifs <;> first | rfl | omega

/-- The prepared projections: each column with its factor. -/
theorem prepared (c : Dev nD) (b : Fin 2) (t : Fin 8192) (q : Fin 6144) :
    (V m c main_v10 : FVec Ideal S2x8192x6144 .bf16) (ix3 b t q) = argU m c (ix3 b t q) * fac q := by
  have h : (V m c main_v10 : FVec Ideal S2x8192x6144 .bf16) = truncf .bf16 (mulf (argU m c) (broadcastInDim S2x8192x6144 ![0, 1, 2] bcast_S1x1x6144_S2x8192x6144_0_1_2
    (broadcastInDim S1x1x6144 ![1, 2] bcast_S1x6144_S1x1x6144_1_2 (shapeCast S1x6144 groups shapeCasts_S6144_S1x6144)))) := rfl
  rw [h, ← groups_apply]
  pointwise

/-- The prepared rows of biases by distance. -/
theorem byDistance (c : Dev nD) (H : Fin 8) (n : Fin 1024) :
    (V m c main_v16 : FVec Ideal S8x1x1024 .f32) (ix3 H 0 n) = argB m c (ix2 H (place n)) := by
  have h : (V m c main_v16 : FVec Ideal S8x1x1024 .f32) = shapeCast S8x1x1024 (concatenate S8x1024 1
    [⟨S8x256, broadcastInDim S8x256 ![0, 1] bcast_S8x1_S8x256_0_1 (extractStridedSlice S8x1 ![0, 319] (argB m c) slices_S8x320_S8x1_0_319)⟩,
     ⟨S8x320, Host.reverse [1] (argB m c)⟩,
     ⟨S8x448, broadcastInDim S8x448 ![0, 1] bcast_S8x1_S8x448_0_1 (extractStridedSlice S8x1 ![0, 319] (argB m c) slices_S8x320_S8x1_0_319)⟩]
     concatenates_S8x256_S8x320_S8x448_S8x1024_d1) shapeCasts_S8x1024_S8x1x1024 := rfl
  rw [h]
  pointwise
  have hn := n.isLt
  have key (k : Fin 320) (hk : k.val = (place n).val) : argB m c (ix2 H k) = argB m c (ix2 H (place n)) :=
    congrArg (fun k => argB m c (ix2 H k)) (Fin.ext hk)
  by_cases h1 : n.val < 256
  · rw [dif_pos h1]
    refine key _ ?_
    simp [place, h1]
  · rw [dif_neg h1]
    by_cases h2 : n.val - 256 < 320
    · rw [dif_pos h2]
      have h3 : n.val < 576 := by omega
      refine (key (Fin.rev ⟨n.val - 256, h2⟩) ?_)
      simp only [place, h1, h3, if_true, if_false, Fin.val_rev]
      omega
    · rw [dif_neg h2]
      have h3 : ¬n.val < 576 := by omega
      refine key _ ?_
      simp [place, h1, h3]

/-- Where each window's block lies at point `t`: the head group is `t / 32`, the sequence `t / 16 % 2`, the block `t % 16`. -/
theorem idx : ∀ t : Fin cfg0.N, win0_0.index t = ![t.val / 16 % 2, t.val % 16, 6 + t.val / 32]
    ∧ win0_1.index t = ![t.val / 16 % 2, t.val % 16 - 1, 8 + t.val / 32]
    ∧ win0_2.index t = ![t.val / 16 % 2, t.val % 16, 8 + t.val / 32]
    ∧ win0_3.index t = ![t.val / 16 % 2, t.val % 16 - 1, 10 + t.val / 32]
    ∧ win0_4.index t = ![t.val / 16 % 2, t.val % 16, 10 + t.val / 32]
    ∧ win0_5.index t = ![t.val / 32, 0, 0]
    ∧ win0_6.index t = ![t.val / 16 % 2, t.val % 16, t.val / 32] :=
  (by decide +kernel : ∀ t : Fin grid0.N, _)

/-- The sequence, the block and the heads of point `t`. -/
def seq (t : Fin cfg0.N) : Fin 2 := ⟨t.val / 16 % 2, Nat.mod_lt _ (by norm_num)⟩
def nth (t : Fin cfg0.N) : Fin 16 := ⟨t.val % 16, Nat.mod_lt _ (by norm_num)⟩
def head (t : Fin cfg0.N) (h : Fin 4) : Fin 8 := ⟨4 * (t.val / 32) + h.val, by
  have := t.isLt; have hN : cfg0.N = 64 := N_0; omega⟩

/-- The rows of biases at point `t`. -/
theorem biases_eq (c : Dev nD) (t : Fin cfg0.N) (h : Fin 4) (n : Fin 1024) :
    (iblk m c 5 t : FVec Ideal S4x1x1024 .f32) (ix3 h 0 n) = argB m c (ix2 (head t h) (place n)) := by
  refine Eq.trans ?_ (byDistance m c (head t h) n)
  blk_ext [iblk, idx t]
  all_goals (simp only [head]; omega)

/-- The blocks of projections at point `t`. -/
theorem blk_q (c : Dev nD) (t : Fin cfg0.N) (j : Fin 2) (r : Fin 256) (h : Fin 4) (e : Fin 128) :
    (iblk m c 0 t : FVec Ideal S1x512x512 .bf16) (ix3 0 (query j r) (col h e))
      = argU m c (ix3 (seq t) (absquery (nth t) j r) (qcol (head t h) e)) * scale := by
  have hf : fac (qcol (head t h) e) = scale := by
    have := (head t h).isLt; have := e.isLt
    unfold fac qcol
    rw [if_neg, if_neg, if_pos] <;> dsimp only <;> omega
  rw [← hf]
  refine Eq.trans ?_ (prepared m c _ _ _)
  blk_ext [iblk, idx t]
  all_goals (simp only [head, seq, nth, absquery, query, qcol, col]; omega)

/-- The two blocks of keys at point `t`. -/
theorem rows_k (c : Dev nD) (t : Fin cfg0.N) (j : Fin 2) (k : Fin 768) (h : Fin 4) (e : Fin 128) :
    rows (iblk m c 1 t) (iblk m c 2 t) (key j k) (col h e) = argU m c (ix3 (seq t) (abskey (nth t) j k) (kcol (head t h) e)) := by
  have hf : fac (kcol (head t h) e) = 1 := by
    have := (head t h).isLt; have := e.isLt
    unfold fac kcol
    rw [if_neg, if_neg, if_neg] <;> dsimp only <;> omega
  rw [← mul_one (argU m c _), ← hf]
  refine Eq.trans ?_ (prepared m c _ _ _)
  unfold rows
  split
  · blk_ext [iblk, idx t]
    all_goals (simp only [head, seq, nth, abskey, key, kcol, col] at *; first | omega | (split_ifs; omega))
  · blk_ext [iblk, idx t]
    all_goals (simp only [head, seq, nth, abskey, key, kcol, col] at *; first | omega | (split_ifs; omega))

/-- The two blocks of values at point `t`. -/
theorem rows_v (c : Dev nD) (t : Fin cfg0.N) (j : Fin 2) (k : Fin 768) (h : Fin 4) (e : Fin 128) :
    rows (iblk m c 3 t) (iblk m c 4 t) (key j k) (col h e) = argU m c (ix3 (seq t) (abskey (nth t) j k) (vcol (head t h) e)) := by
  have hf : fac (vcol (head t h) e) = 1 := by
    have := (head t h).isLt; have := e.isLt
    unfold fac vcol
    rw [if_neg, if_neg, if_neg] <;> dsimp only <;> omega
  rw [← mul_one (argU m c _), ← hf]
  refine Eq.trans ?_ (prepared m c _ _ _)
  unfold rows
  split
  · blk_ext [iblk, idx t]
    all_goals (simp only [head, seq, nth, abskey, key, vcol, col] at *; first | omega | (split_ifs; omega))
  · blk_ext [iblk, idx t]
    all_goals (simp only [head, seq, nth, abskey, key, vcol, col] at *; first | omega | (split_ifs; omega))

/-- The block stored at point `t`, at query `r` of half `j`, head `h`, column `d`. -/
theorem outBlock_eq (c : Dev nD) (t : Fin cfg0.N) (j : Fin 2) (r : Fin 256) (h : Fin 4) (d : Fin 128) :
    outBlock m c t (ix3 0 (query j r) (col h d)) = winMean (argU m c) (argB m c) (seq t) (nth t) j r (head t h) d := by
  refine (blockOut_at _ _ _ _ _ _ j h r d _ rfl rfl).symm.trans ?_
  unfold attend winMean winScore
  congr 1
  · funext k
    refine congrArg₂ (· + ·) (Finset.sum_congr rfl fun e _ => congrArg₂ (· * ·) (rows_k m c t j k h e) (blk_q m c t j r h e)) ?_
    exact congrArg (fun f => tile f (kind ((nth t).val = 0) j) k r) (funext fun n => biases_eq m c t h n)
  · funext k
    exact rows_v m c t j k h d

end Cert.ChunkValue

end
-- ==== Proof.ChunkMean.lean ====
/-
  Weighted means with exponentials as weights: a mean over a window of keys is the mean over all keys, if the keys
  left out weigh nothing.
-/
module

public import proofs.«01_k».proof.Proof.ChunkTile

@[expose] public section

noncomputable section

namespace Cert.ChunkValue

open Idealize.ShloMosaic

/-- A nonnegative real factor goes through a sum. -/
theorem sum_factor {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- Each score is at most the greatest. -/
theorem le_greatest {n : ℕ} (s : Fin n → EReal) (k : Fin n) : s k ≤ top s :=
  (Finset.le_fold_max (s := Finset.univ) (f := s) (b := ⊥) (s k)).mpr (Or.inr ⟨k, Finset.mem_univ _, le_refl _⟩)

/-- The greatest score is at most a common bound. -/
theorem top_le {n : ℕ} (s : Fin n → EReal) (b : EReal) (h : ∀ k, s k ≤ b) : top s ≤ b :=
  (Finset.fold_max_le (s := Finset.univ) (f := s) (b := ⊥) b).mpr ⟨bot_le, fun k _ => h k⟩

/-- If every score is −∞ or real and one is real, the greatest is real. -/
theorem top_real {n : ℕ} (s : Fin n → EReal) (P : Fin n → Prop) (hP : ∀ k, P k → ∃ x : ℝ, s k = x) (hN : ∀ k, ¬P k → s k = ⊥)
    (hex : ∃ k, P k) : ∃ M : ℝ, top s = M := by
  obtain ⟨k, hk⟩ := hex
  obtain ⟨x, hx⟩ := hP k hk
  have h1 : top s ≠ ⊥ := fun h => by
    have := le_greatest s k
    rw [h, hx] at this
    exact absurd (le_bot_iff.mp this) (EReal.coe_ne_bot x)
  have h2 : top s ≠ ⊤ := by
    refine ne_of_lt ((Finset.fold_max_lt (s := Finset.univ) (f := s) (b := ⊥) ⊤).mpr ⟨bot_lt_top, fun k _ => ?_⟩)
    by_cases h : P k
    · obtain ⟨y, hy⟩ := hP k h
      rw [hy]; exact EReal.coe_lt_top y
    · rw [hN k h]; exact bot_lt_top
  exact ⟨(top s).toReal, (EReal.coe_toReal h2 h1).symm⟩

/-- The weighted mean over a window of keys is the mean over all keys, the weights divided by their sum first, if the
    window's keys that count are, one to one, the keys that count. -/
theorem mean_window {n m : ℕ} (s v : Fin n → EReal) (s' v' : Fin m → EReal) (P : Fin n → Prop) (P' : Fin m → Prop)
    (W : Fin m → Fin n) (hW : ∀ k, P' k → P (W k) ∧ s' k = s (W k) ∧ v' k = v (W k))
    (hinj : ∀ k l, P' k → P' l → W k = W l → k = l) (hsurj : ∀ j, P j → ∃ k, P' k ∧ W k = j)
    (hN : ∀ j, ¬P j → s j = ⊥) (hN' : ∀ k, ¬P' k → s' k = ⊥) (hP : ∀ j, P j → ∃ x : ℝ, s j = x) (hex : ∃ j, P j) :
    mean s' v' = ∑ j, Ideal.div (Ideal.exp (s j - top s)) (∑ i, Ideal.exp (s i - top s)) * v j := by
  classical
  have htop : top s' = top s := by
    apply le_antisymm
    · refine top_le _ _ fun k => ?_
      by_cases h : P' k
      · rw [(hW k h).2.1]; exact le_greatest s _
      · rw [hN' k h]; exact bot_le
    · refine top_le _ _ fun j => ?_
      by_cases h : P j
      · obtain ⟨k, hk, rfl⟩ := hsurj j h
        rw [← (hW k hk).2.1]; exact le_greatest s' _
      · rw [hN j h]; exact bot_le
  obtain ⟨M, hM⟩ := top_real s P hP hN hex
  have hbot : Ideal.exp (⊥ - (M : EReal)) = 0 := by rw [EReal.bot_sub]; rfl
  have hsum : ∀ (f : EReal → EReal → EReal), (∀ y, f 0 y = 0) →
      ∑ k, f (Ideal.exp (s' k - (M : EReal))) (v' k) = ∑ j, f (Ideal.exp (s j - (M : EReal))) (v j) := by
    intro f hf
    rw [← Finset.sum_filter_of_ne (s := (Finset.univ : Finset (Fin m))) (p := P') (fun k _ hk => by
        by_contra h
        exact hk (by rw [hN' k h, hbot, hf])),
      ← Finset.sum_filter_of_ne (s := (Finset.univ : Finset (Fin n))) (p := P) (fun k _ hk => by
        by_contra h
        exact hk (by rw [hN k h, hbot, hf]))]
    refine Finset.sum_bij (fun k _ => W k) (fun k hk => ?_) (fun k hk l hl => ?_) (fun j hj => ?_) (fun k hk => ?_)
    · simp only [Finset.mem_filter, Finset.mem_univ, true_and] at hk ⊢
      exact (hW k hk).1
    · simp only [Finset.mem_filter, Finset.mem_univ, true_and] at hk hl
      exact hinj k l hk hl
    · simp only [Finset.mem_filter, Finset.mem_univ, true_and] at hj
      obtain ⟨k, hk, e⟩ := hsurj j hj
      exact ⟨k, by simpa using hk, e⟩
    · simp only [Finset.mem_filter, Finset.mem_univ, true_and] at hk
      rw [(hW k hk).2.1, (hW k hk).2.2]
  have hexp : ∀ j, ∃ x : ℝ, 0 ≤ x ∧ Ideal.exp (s j - (M : EReal)) = x ∧ (P j → 0 < x) := by
    intro j
    by_cases h : P j
    · obtain ⟨x, hx⟩ := hP j h
      refine ⟨Real.exp (x - M), (Real.exp_pos _).le, ?_, fun _ => Real.exp_pos _⟩
      rw [hx, ← EReal.coe_sub]; rfl
    · exact ⟨0, le_refl _, by rw [hN j h, hbot]; rfl, fun h' => absurd h' h⟩
  choose w hw0 hw hwp using hexp
  have hS : ∑ i, Ideal.exp (s i - (M : EReal)) = ((∑ i, w i : ℝ) : EReal) := by
    simp only [hw]
    exact (map_sum (⟨⟨fun x : ℝ => (x : EReal), rfl⟩, EReal.coe_add⟩ : ℝ →+ EReal) w Finset.univ).symm
  have hSpos : 0 < ∑ i, w i := by
    obtain ⟨j, hj⟩ := hex
    exact Finset.sum_pos' (fun i _ => hw0 i) ⟨j, Finset.mem_univ _, hwp j hj⟩
  unfold mean
  rw [htop, hM]
  have e1 := hsum (fun e y => y * e) (fun y => mul_zero y)
  have e2 := hsum (fun e _ => e) (fun _ => rfl)
  rw [e1, e2, hS, Ideal.div_coe hSpos.ne', ← sum_factor _ _ _ (by positivity)]
  refine Finset.sum_congr rfl fun j _ => ?_
  rw [Ideal.div_coe hSpos.ne', mul_assoc, mul_comm]

end Cert.ChunkValue

end
-- ==== Proof.ChunkMask.lean ====
/-
  The reference of chunked attention: which keys each query sees.
-/
module

public import proofs.«01_k».proof.Defs
public import proofs.«01_k».proof.Proof.Gen.ChunkRefIdeal.Run
public import proofs.«01_k».proof.Proof.Gen.ChunkRefIdeal.Read
public import Idealize.ShloMosaic.Lib.Pointwise

@[expose] public section

set_option maxRecDepth 16384

noncomputable section

namespace Cert.ChunkRef

open Idealize.ShloMosaic Idealize.ShloMosaic.Tactic
open Cert.ChunkRefIdeal Cert.ChunkRefIdeal.Read

/-- A word's floor quotient by 64, the way it is spelled: the truncated quotient, less one if the signs differ and
    something is left over. -/
theorem queryChunk (t : Fin 8192) : val_main_v32 (F := Ideal) (ix2 t 0) = BitVec.ofNat 32 (t.val / 64) := by
  pointwise [val_main_v32, val_main_call1_v13, val_main_call1_v12, val_main_call1_c_0, val_main_call1_v11, val_main_call1_v10,
    val_main_call1_v9, val_main_call1_c, val_main_call1_v8, val_main_call1_v7, val_main_call1_v6, val_main_call1_v5, val_main_call1_v4,
    val_main_call1_v3, val_main_call1_v2, val_main_call1_v1, val_main_call1_v0, val_main_c_4, val_main_v10, val_main_v9]
  revert t
  decide +kernel

theorem keyChunk (j : Fin 8192) : val_main_v33 (F := Ideal) (ix2 0 j) = BitVec.ofNat 32 (j.val / 64) := by
  pointwise [val_main_v33, val_main_call2_v13, val_main_call2_v12, val_main_call2_c_0, val_main_call2_v11, val_main_call2_v10,
    val_main_call2_v9, val_main_call2_c, val_main_call2_v8, val_main_call2_v7, val_main_call2_v6, val_main_call2_v5, val_main_call2_v4,
    val_main_call2_v3, val_main_call2_v2, val_main_call2_v1, val_main_call2_v0, val_main_c_5, val_main_v12, val_main_v11]
  revert j
  decide +kernel

/-- Query `t` sees key `j` if the key's chunk is its own or one of the eight before. -/
abbrev sees (t j : Fin 8192) : Prop := j.val / 64 ≤ t.val / 64 ∧ t.val / 64 ≤ j.val / 64 + 8

theorem chunkWords : ∀ a b : Fin 128,
    (IntOp.andi (IntOp.cmpi .sge (IntOp.subi (BitVec.ofNat 32 a.val) (BitVec.ofNat 32 b.val)) 0#32)
      (IntOp.cmpi .sle (IntOp.subi (BitVec.ofNat 32 a.val) (BitVec.ofNat 32 b.val)) 8#32) = 1) ↔ (b.val ≤ a.val ∧ a.val ≤ b.val + 8) := by
  decide +kernel

/-- The mask. -/
theorem mask (t j : Fin 8192) : val_main_v41 (F := Ideal) (ix2 t j) = 1 ↔ sees t j := by
  pointwise [val_main_v41, val_main_v40, val_main_v39, val_main_c_7, val_main_v38, val_main_v37, val_main_c_6, val_main_v36, val_main_v35,
    val_main_v34, queryChunk, keyChunk]
  exact chunkWords ⟨t.val / 64, by omega⟩ ⟨j.val / 64, by omega⟩

end Cert.ChunkRef

end
-- ==== Proof.ChunkTake.lean ====
/-
  The reference of chunked attention: which place of the table of biases each pair of query and key takes.
-/
module

public import proofs.«01_k».proof.Defs
public import proofs.«01_k».proof.Proof.Gen.ChunkRefIdeal.Run
public import proofs.«01_k».proof.Proof.Gen.ChunkRefIdeal.Read
public import Idealize.ShloMosaic.Lib.Pointwise

@[expose] public section

set_option maxRecDepth 16384

noncomputable section

namespace Cert.ChunkRef

open Idealize.ShloMosaic Idealize.ShloMosaic.Tactic
open Cert.ChunkRefIdeal Cert.ChunkRefIdeal.Read

/-- The place in the table of biases that query `t` takes for key `j`. -/
def place (t j : Fin 8192) : Fin 320 :=
  ⟨if t.val + 63 < j.val then 0 else if j.val + 256 < t.val then 319 else t.val + 63 - j.val, by split_ifs <;> omega⟩

/-- The clipped distance and the place it names, over all distances. -/
theorem offsetWords : ∀ d : Fin 16383,
    (BitVec.toInt
        (Scalar.select
          (IntOp.cmpi CmpIPredicate.slt
            (IntOp.addi (IntOp.minsi (id (constantI S_ 32 256#32) ix0) (IntOp.maxsi (id (constantI S_ 32 4294967233#32) ix0)
              (BitVec.ofNat 32 d.val - 8191#32))) 63#32) 0#32)
          (IntOp.addi (IntOp.addi (IntOp.minsi (id (constantI S_ 32 256#32) ix0) (IntOp.maxsi (id (constantI S_ 32 4294967233#32) ix0)
              (BitVec.ofNat 32 d.val - 8191#32))) 63#32) 320#32)
          (IntOp.addi (IntOp.minsi (id (constantI S_ 32 256#32) ix0) (IntOp.maxsi (id (constantI S_ 32 4294967233#32) ix0)
              (BitVec.ofNat 32 d.val - 8191#32))) 63#32))).toNat
      = if d.val + 63 < 8191 then 0 else if 8191 + 256 < d.val then 319 else d.val + 63 - 8191 := by
  decide +kernel

theorem places (t j : Fin 8192) : (val_main_v24 (F := Ideal) (ix3 t j 0)).toInt.toNat = (place t j).val := by
  pointwise [val_main_v24, val_main_v23, val_main_v22, val_main_v21, val_main_c_3, val_main_v20, val_main_v19, val_main_c_2, val_main_v18,
    val_main_v17, val_main_c_1, val_main_v16, val_main_call0_v4, val_main_call0_v3, val_main_call0_v2, val_main_call0_v1, val_main_call0_v0,
    val_main_c_0, val_main_c, val_main_v15, val_main_v14, val_main_v13, val_main_v12, val_main_v11, val_main_v10, val_main_v9]
  have hw : IntOp.subi (BitVec.ofNat 32 t.val) (BitVec.ofNat 32 j.val) = BitVec.ofNat 32 (t.val + 8191 - j.val) - 8191#32 := by
    have := t.isLt; have := j.isLt
    apply BitVec.eq_of_toNat_eq
    simp [IntOp.subi]
    omega
  rw [hw]
  refine (offsetWords ⟨t.val + 8191 - j.val, by omega⟩).trans ?_
  have := t.isLt; have := j.isLt
  simp only [place]
  split_ifs <;> omega

/-- Taking places of the table, head by head. -/
theorem take_apply (x : FVec Ideal S8x320 .f32) (idx : IVec S8192x8192x1 32) (H : Fin 8) (t j : Fin 8192) :
    Host.gather gather_S8x320_S8192x8192x1_S8x8192x8192_0_1_n_n_1_2_81 x idx (ix3 H t j)
      = x (ix2 H ⟨min (idx (ix3 t j 0)).toInt.toNat 319, by omega⟩) := by
  unfold Host.gather
  refine congrArg x (funext fun a => ?_)
  fin_cases a
  · apply Fin.ext
    have h1 : GatherDims.start gather_S8x320_S8192x8192x1_S8x8192x8192_0_1_n_n_1_2_81 (ix3 H t j) idx (0 : Fin 2) = 0 := by
      unfold GatherDims.start
      rw [dif_neg (by decide)]
    have h2 : GatherDims.batchCoord gather_S8x320_S8192x8192x1_S8x8192x8192_0_1_n_n_1_2_81 (ix3 H t j) (0 : Fin 2) = 0 := by
      unfold GatherDims.batchCoord
      rw [dif_neg (by decide)]
    have h3 : GatherDims.offCoord gather_S8x320_S8192x8192x1_S8x8192x8192_0_1_n_n_1_2_81 (ix3 H t j) (0 : Fin 2) = H.val := by
      unfold GatherDims.offCoord
      rw [dif_pos (by decide)]
      rfl
    show GatherDims.start gather_S8x320_S8192x8192x1_S8x8192x8192_0_1_n_n_1_2_81 (ix3 H t j) idx (0 : Fin 2) + GatherDims.batchCoord gather_S8x320_S8192x8192x1_S8x8192x8192_0_1_n_n_1_2_81 (ix3 H t j) (0 : Fin 2)
      + GatherDims.offCoord gather_S8x320_S8192x8192x1_S8x8192x8192_0_1_n_n_1_2_81 (ix3 H t j) (0 : Fin 2) = H.val
    rw [h1, h2, h3, Nat.add_zero, Nat.zero_add]
  · apply Fin.ext
    refine congrArg (fun i => min (idx i).toInt.toNat 319) (funext fun b => ?_)
    fin_cases b <;> rfl

end Cert.ChunkRef

end
-- ==== Proof.ChunkRef.lean ====
/-
  The reference of chunked attention: what its scores, its softmax and its result are, entry by entry.
-/
module

public import proofs.«01_k».proof.Proof.ChunkMask
public import proofs.«01_k».proof.Proof.ChunkTake

@[expose] public section

set_option maxRecDepth 16384

noncomputable section

namespace Cert.ChunkRef

open Idealize.ShloMosaic Idealize.ShloMosaic.Tactic
open Cert.ChunkRefIdeal Cert.ChunkRefIdeal.Gen Cert.ChunkRefIdeal.Read

variable (u : FVec Ideal S2x8192x6144 .f32) (rb : FVec Ideal S8x320 .f32)

/-- Columns of head `H`: queries, keys and values. -/
def qcol (H : Fin 8) (e : Fin 128) : Fin 6144 := ⟨3072 + 128 * H.val + e.val, by omega⟩
def kcol (H : Fin 8) (e : Fin 128) : Fin 6144 := ⟨4096 + 128 * H.val + e.val, by omega⟩
def vcol (H : Fin 8) (e : Fin 128) : Fin 6144 := ⟨5120 + 128 * H.val + e.val, by omega⟩

/-- The score of key `j` for query `t`. -/
def score (b : Fin 2) (H : Fin 8) (t j : Fin 8192) : EReal :=
  if sees t j then (∑ e : Fin 128, u (ix3 b t (qcol H e)) * u (ix3 b j (kcol H e))) * Ideal.ofBits .f32 0x3DB504F3#32
    + rb (ix2 H (place t j)) else ⊥

theorem bias_apply (H : Fin 8) (t j : Fin 8192) : val_main_v25 (F := Ideal) rb (ix3 H t j) = rb (ix2 H (place t j)) := by
  unfold val_main_v25
  rw [take_apply]
  refine congrArg (fun n => rb (ix2 H n)) (Fin.ext ?_)
  show min _ 319 = _
  rw [places]
  have := (place t j).isLt
  omega

theorem word_bot : Ideal.ofBits .f32 0xFF800000#32 = ⊥ := by
  simp [Ideal.ofBits, Ideal.ieee]

theorem q_apply (b : Fin 2) (H : Fin 8) (t : Fin 8192) (e : Fin 128) :
    val_main_v4 (F := Ideal) u (ix4 b H t e) = u (ix3 b t (qcol H e)) := by
  pointwise [val_main_v4, val_main_v3, val_main_v0]
  exact congrArg (fun n => u (ix3 b t n)) (Fin.ext (by show 3072 + (H.val * 128 + e.val) = 3072 + 128 * H.val + e.val; omega))

theorem k_apply (b : Fin 2) (H : Fin 8) (t : Fin 8192) (e : Fin 128) :
    val_main_v6 (F := Ideal) u (ix4 b H t e) = u (ix3 b t (kcol H e)) := by
  pointwise [val_main_v6, val_main_v5, val_main_v1]
  exact congrArg (fun n => u (ix3 b t n)) (Fin.ext (by show 4096 + (H.val * 128 + e.val) = 4096 + 128 * H.val + e.val; omega))

theorem v_apply (b : Fin 2) (H : Fin 8) (t : Fin 8192) (e : Fin 128) :
    val_main_v8 (F := Ideal) u (ix4 b H t e) = u (ix3 b t (vcol H e)) := by
  pointwise [val_main_v8, val_main_v7, val_main_v2]
  exact congrArg (fun n => u (ix3 b t n)) (Fin.ext (by show 5120 + (H.val * 128 + e.val) = 5120 + 128 * H.val + e.val; omega))

theorem score_apply (b : Fin 2) (H : Fin 8) (t j : Fin 8192) :
    val_main_v42 (F := Ideal) u rb (ix4 b H t j) = score u rb b H t j := by
  pointwise [val_main_v42, val_main_call3_v2, val_main_call3_v1, val_main_call3_v0, val_main_cst_8, val_main_v31, val_main_v30, val_main_v29,
    val_main_v28, val_main_v27, val_main_cst, val_main_v26, q_apply, k_apply, bias_apply]
  have hw : (id (constant (F := Ideal) S_ .f32 0xFF800000#32) ix0 : EReal) = ⊥ := word_bot
  rw [hw]
  unfold Scalar.select score
  simp only [mask t j]

/-- The greatest score of a query. -/
def top (b : Fin 2) (H : Fin 8) (t : Fin 8192) : EReal := (Finset.univ : Finset (Fin 8192)).fold max ⊥ (score u rb b H t)

/-- A row's greatest entry, over any array of scores. -/
theorem greatest (x : FVec Ideal S2x8x8192x8192 .f32) (y : FVec Ideal S_ .f32) (b : Fin 2) (H : Fin 8) (t : Fin 8192) :
    Host.reduce FloatOps.maximumf x y reducesTo_S2x8x8192x8192_S2x8x8192_d3 h_S_ (ix3 b H t)
      = (Finset.univ : Finset (Fin 8192)).fold max (y (Shape.Idx.first h_S_)) (fun j => x (ix4 b H t j)) := by
  pointwise

theorem top_apply (b : Fin 2) (H : Fin 8) (t : Fin 8192) :
    val_main_v45 (F := Ideal) u rb (ix3 b H t) = top u rb b H t := by
  have h : val_main_v43 (F := Ideal) u rb (ix3 b H t) = top u rb b H t := by
    unfold val_main_v43
    rw [greatest]
    unfold top
    simp only [score_apply]
    rw [show (val_main_cst_9 (F := Ideal) (Shape.Idx.first h_S_) : EReal) = ⊥ from word_bot]
  rw [val_main_v45_apply, h, val_main_v44_apply]
  refine (congrArg (fun z : EReal => max z (top u rb b H t)) word_bot).trans ?_
  exact max_eq_right bot_le

theorem weight_apply (b : Fin 2) (H : Fin 8) (t j : Fin 8192) :
    val_main_v49 (F := Ideal) u rb (ix4 b H t j) = Ideal.exp (score u rb b H t j - top u rb b H t) := by
  pointwise [val_main_v49, val_main_v48, val_main_v47, val_main_v46, score_apply, top_apply]

/-- The reference's result. -/
theorem result_apply (b : Fin 2) (H : Fin 8) (t : Fin 8192) (d : Fin 128) :
    val_main_v57 (F := Ideal) u rb (ix3 b t ⟨128 * H.val + d.val, by omega⟩)
      = ∑ j : Fin 8192, Ideal.div (Ideal.exp (score u rb b H t j - top u rb b H t)) (∑ i : Fin 8192, Ideal.exp (score u rb b H t i - top u rb b H t))
          * u (ix3 b j (vcol H d)) := by
  pointwise [val_main_v57, val_main_v56, val_main_v55, val_main_v54, val_main_v53, val_main_v52, val_main_v51, val_main_v50, val_main_cst_11,
    weight_apply, v_apply, zero_add]

end Cert.ChunkRef

end
-- ==== Proof.ChunkPre.lean ====
/-
  What the precondition says: the queries, the keys and the biases are real numbers.
-/
module

public import proofs.«01_k».proof.Pre_finite_scores
public import Idealize.ShloMosaic.Lib.Pointwise
public import Idealize.ShloMosaic.Lib.Pipeline.ValueKit
public import Idealize.ShloMosaic.Lib.ReduceAll

@[expose] public section

set_option maxRecDepth 16384

noncomputable section

namespace Cert.ChunkPre

open Idealize.ShloMosaic Idealize.ShloMosaic.Tactic
open Cert.Pre_finite_scores

/-- The shape relations of the predicate's operations. -/
theorem facts : Facts where
  slices_S2x8192x6144_S2x8192x2048_0_0_3072 := by decide
  bcast_S_S2x8192x2048 := by decide
  reducesTo_S2x8192x2048_S_d0_1_2 := by decide
  h_S_ := by decide
  bcast_S_S8x320 := by decide
  reducesTo_S8x320_S_d0_1 := by decide

theorem word_top : Ideal.ofBits .f32 0x7F800000#32 = ⊤ := by
  simp [Ideal.ofBits, Ideal.ieee]

/-- A number whose absolute value is below +∞ is real. -/
theorem real_of_abs (x : EReal) (h : max x (-x) < ⊤) : ∃ a : ℝ, x = a := by
  induction x with
  | bot => simp at h
  | top => simp at h
  | coe a => exact ⟨a, rfl⟩

/-- One entry of a comparison against +∞. -/
theorem real_of_word (x : EReal) (h : Ideal.cmp .olt (max x (-x)) (Ideal.ofBits .f32 0x7F800000#32) = 1#1) :
    ∃ a : ℝ, x = a := by
  refine real_of_abs x ?_
  rw [word_top] at h
  by_contra hn
  simp only [Ideal.cmp, hn, decide_false] at h
  exact absurd h (by decide)

theorem single : Subsingleton S_.Idx := ⟨fun a b => funext fun i => i.elim0⟩

variable [Facts] (u : FVec Ideal S2x8192x6144 .f32) (rb : FVec Ideal S8x320 .f32)

theorem both (h : fn u rb = fun _ => 1#1) :
    (∀ (b : Fin 2) (t : Fin 8192) (q : Fin 2048), ∃ a : ℝ, u (ix3 b t ⟨3072 + q.val, by omega⟩) = a) ∧
    ∀ (H : Fin 8) (n : Fin 320), ∃ a : ℝ, rb (ix2 H n) = a := by
  haveI := single
  have h0 := congrFun h (Shape.Idx.first Facts.h_S_)
  have hb : ∀ x y : BitVec 1, IntOp.andi x y = 1#1 → x = 1#1 ∧ y = 1#1 := by decide
  obtain ⟨h1, h2⟩ := hb _ _ h0
  refine ⟨fun b t q => ?_, fun H n => ?_⟩
  · have e := Host.reduce_andi_all _ _ _ _ _ h1 (ix3 b t q)
    refine real_of_word _ (Eq.trans ?_ e)
    pointwise
    rfl
  · have e := Host.reduce_andi_all _ _ _ _ _ h2 (ix2 H n)
    exact real_of_word _ e

end Cert.ChunkPre

end
-- ==== Proof.ChunkEq.lean ====
/-
  The equation of chunked attention: over the extended reals, with real queries, keys and biases, the kernel's mean over a
  window of 768 keys is the reference's softmax over all keys.
-/
module

public import proofs.«01_k».proof.Defs
public import proofs.«01_k».proof.Proof.Gen.ChunkIdeal.Value
public import proofs.«01_k».proof.Proof.Gen.ChunkRefIdeal.Run
public import proofs.«01_k».proof.Proof.Gen.ChunkRefIdeal.Read
public import proofs.«01_k».proof.Proof.ChunkArray
public import proofs.«01_k».proof.Proof.ChunkMean
public import proofs.«01_k».proof.Proof.ChunkRef
public import proofs.«01_k».proof.Proof.ChunkPre

@[expose] public section

set_option maxRecDepth 16384

noncomputable section

namespace Cert.ChunkValue

open Idealize.ShloMosaic Idealize.ShloMosaic.TcCoe Idealize.ShloMosaic.Tactic Idealize.SL.Sem
open Cert.ChunkIdeal Cert.ChunkIdeal.Gen

/-- The factor on the queries is a nonnegative real. -/
theorem scale_real : ∃ c : ℝ, 0 ≤ c ∧ scale = (c : EReal) := by
  refine ⟨11863283 / 134217728, by norm_num, ?_⟩
  simp [scale, Ideal.ofBits, Ideal.ieee, -EReal.coe_mul]
  norm_num

/-- A sum of products of reals is real. -/
theorem sum_real {n : ℕ} (f g : Fin n → EReal) (hf : ∀ e, ∃ x : ℝ, f e = x) (hg : ∀ e, ∃ x : ℝ, g e = x) :
    ∃ x : ℝ, ∑ e, f e * g e = x := by
  choose a ha using hf
  choose b hb using hg
  refine ⟨∑ e, a e * b e, ?_⟩
  simp only [ha, hb, ← EReal.coe_mul]
  exact (map_sum (⟨⟨((↑) : ℝ → EReal), EReal.coe_zero⟩, EReal.coe_add⟩ : ℝ →+ EReal) (fun e => a e * b e) Finset.univ).symm

/-- A key of the window that the query attends to: it lies in the sequence, and its chunk is near enough. -/
def inWindow (i : Fin 16) (j : Fin 2) (r : Fin 256) (k : Fin 768) : Prop :=
  ¬k.val < ![0, 512, 256] (kind (i.val = 0) j) ∧ sees k r

/-- Such a key's row. -/
theorem abskey_val (i : Fin 16) (j : Fin 2) (r : Fin 256) (k : Fin 768) (h : inWindow i j r k) :
    512 ≤ 512 * i.val + 256 * j.val + k.val ∧ (abskey i j k).val = 512 * i.val + 256 * j.val + k.val - 512 := by
  obtain ⟨h, -⟩ := h
  have hlow : 512 ≤ 512 * i.val + 256 * j.val + k.val := by
    by_cases hi : i.val = 0
    · rw [kind, if_pos hi] at h
      fin_cases j <;> simp at h ⊢ <;> omega
    · omega
  refine ⟨hlow, ?_⟩
  simp only [abskey]
  split_ifs <;> omega

/-- The window holds every key of the sequence that the query attends to. -/
theorem window_key (i : Fin 16) (j : Fin 2) (r : Fin 256) (n : Fin 8192) (h : Cert.ChunkRef.sees (absquery i j r) n) :
    ∃ k, inWindow i j r k ∧ abskey i j k = n := by
  obtain ⟨h1, h2⟩ := h
  simp only [absquery] at h1 h2
  have hk : n.val + 512 - 512 * i.val - 256 * j.val < 768 := by omega
  have hw : inWindow i j r ⟨n.val + 512 - 512 * i.val - 256 * j.val, hk⟩ := by
    refine ⟨?_, ?_⟩
    · by_cases hi : i.val = 0
      · rw [kind, if_pos hi]
        fin_cases j <;> simp [hi]
        all_goals omega
      · rw [kind, if_neg hi]
        exact Nat.not_lt_zero _
    · show _ ∧ _
      simp only
      omega
  refine ⟨_, hw, Fin.ext ?_⟩
  rw [(abskey_val i j r _ hw).2]
  simp only
  omega

/-- A key of the window that the query attends to is one the reference's query attends to. -/
theorem window_sees (i : Fin 16) (j : Fin 2) (r : Fin 256) (k : Fin 768) (h : inWindow i j r k) :
    Cert.ChunkRef.sees (absquery i j r) (abskey i j k) := by
  obtain ⟨h1, h2⟩ := abskey_val i j r k h
  obtain ⟨h3, h4⟩ := h.2
  show _ ∧ _
  rw [h2]
  simp only [absquery]
  omega

/-- The bias of such a key is the reference's. -/
theorem window_place (i : Fin 16) (j : Fin 2) (r : Fin 256) (k : Fin 768) (h : inWindow i j r k) :
    place ⟨(k.val + (1024 - r.val)) % 1024, Nat.mod_lt _ (by norm_num)⟩ = Cert.ChunkRef.place (absquery i j r) (abskey i j k) := by
  obtain ⟨h1, h2⟩ := abskey_val i j r k h
  obtain ⟨h3, h4⟩ := h.2
  refine Fin.ext ?_
  have e : (k.val + (1024 - r.val)) % 1024 = if r.val ≤ k.val then k.val - r.val else k.val + 1024 - r.val := by
    split_ifs <;> omega
  simp only [place, Cert.ChunkRef.place, e, h2, absquery]
  split_ifs <;> first | omega | (simp only []; omega) | (simp; omega)

variable (u : FVec Ideal S2x8192x6144 .f32) (rb : FVec Ideal S8x320 .f32)

/-- The score of such a key is the reference's. -/
theorem window_score (b : Fin 2) (i : Fin 16) (j : Fin 2) (r : Fin 256) (H : Fin 8) (k : Fin 768) (h : inWindow i j r k) :
    winScore u rb b i j r H k = Cert.ChunkRef.score u rb b H (absquery i j r) (abskey i j k) := by
  obtain ⟨c, hc, hs⟩ := scale_real
  unfold winScore Cert.ChunkRef.score
  rw [if_pos (window_sees i j r k h), tile, if_neg h.1, band, if_pos h.2, window_place i j r k h]
  refine congrArg (· + rb (ix2 H (Cert.ChunkRef.place (absquery i j r) (abskey i j k)))) ?_
  rw [show Ideal.ofBits .f32 0x3DB504F3#32 = (c : EReal) from hs, ← sum_factor _ _ c hc]
  refine Finset.sum_congr rfl fun e _ => ?_
  rw [← mul_assoc, mul_comm (u (ix3 b (abskey i j k) (kcol H e))), hs]
  rfl

/-- The other keys of the window weigh nothing. -/
theorem window_masked (b : Fin 2) (i : Fin 16) (j : Fin 2) (r : Fin 256) (H : Fin 8) (k : Fin 768) (h : ¬inWindow i j r k) :
    winScore u rb b i j r H k = ⊥ := by
  unfold winScore tile
  by_cases h1 : k.val < ![0, 512, 256] (kind (i.val = 0) j)
  · rw [if_pos h1, EReal.add_bot]
  · rw [if_neg h1, band, if_neg fun h2 => h ⟨h1, h2⟩, EReal.add_bot]

/-- With real queries, keys and biases, the scores that count are real. -/
theorem score_real (hu : ∀ (b : Fin 2) (t : Fin 8192) (q : Fin 2048), ∃ a : ℝ, u (ix3 b t ⟨3072 + q.val, by omega⟩) = a)
    (hb : ∀ (H : Fin 8) (n : Fin 320), ∃ a : ℝ, rb (ix2 H n) = a) (b : Fin 2) (H : Fin 8) (t n : Fin 8192)
    (h : Cert.ChunkRef.sees t n) : ∃ x : ℝ, Cert.ChunkRef.score u rb b H t n = x := by
  obtain ⟨c, -, hs⟩ := scale_real
  obtain ⟨y, hy⟩ := hb H (Cert.ChunkRef.place t n)
  obtain ⟨x, hx⟩ := sum_real (fun e => u (ix3 b t (Cert.ChunkRef.qcol H e))) (fun e => u (ix3 b n (Cert.ChunkRef.kcol H e)))
    (fun e => by
      obtain ⟨a, ha⟩ := hu b t ⟨128 * H.val + e.val, by omega⟩
      refine ⟨a, Eq.trans (congrArg (fun q => u (ix3 b t q)) (Fin.ext ?_)) ha⟩
      simp only [Cert.ChunkRef.qcol]; omega)
    (fun e => by
      obtain ⟨a, ha⟩ := hu b n ⟨1024 + 128 * H.val + e.val, by omega⟩
      refine ⟨a, Eq.trans (congrArg (fun q => u (ix3 b n q)) (Fin.ext ?_)) ha⟩
      simp only [Cert.ChunkRef.kcol]; omega)
  refine ⟨x * c + y, ?_⟩
  unfold Cert.ChunkRef.score
  rw [if_pos h, hy, show Ideal.ofBits .f32 0x3DB504F3#32 = (c : EReal) from hs]
  refine (congrArg (fun z : EReal => z * (c : EReal) + (y : EReal)) hx).trans ?_
  exact_mod_cast rfl

/-- The kernel's mean over the window is the reference's result. -/
theorem window_mean (hu : ∀ (b : Fin 2) (t : Fin 8192) (q : Fin 2048), ∃ a : ℝ, u (ix3 b t ⟨3072 + q.val, by omega⟩) = a)
    (hb : ∀ (H : Fin 8) (n : Fin 320), ∃ a : ℝ, rb (ix2 H n) = a) (b : Fin 2) (i : Fin 16) (j : Fin 2) (r : Fin 256) (H : Fin 8)
    (d : Fin 128) :
    winMean u rb b i j r H d
      = Cert.ChunkRefIdeal.Read.val_main_v57 (F := Ideal) u rb (ix3 b (absquery i j r) ⟨128 * H.val + d.val, by omega⟩) := by
  rw [Cert.ChunkRef.result_apply]
  refine (mean_window (Cert.ChunkRef.score u rb b H (absquery i j r)) (fun n => u (ix3 b n (vcol H d))) _ _
    (Cert.ChunkRef.sees (absquery i j r)) (inWindow i j r) (abskey i j)
    (fun k h => ⟨window_sees i j r k h, window_score u rb b i j r H k h, rfl⟩)
    ?_ (window_key i j r) (fun n h => if_neg h) (window_masked u rb b i j r H)
    (score_real u rb hu hb b H (absquery i j r)) ⟨absquery i j r, le_refl _, Nat.le_add_right _ _⟩).trans rfl
  intro k k' h h' e
  have h1 := abskey_val i j r k h
  have h2 := abskey_val i j r k' h'
  have := congrArg Fin.val e
  exact Fin.ext (by omega)

variable (m : (ℓ : Loc nD τ sig) → Buf (Elt Ideal) ℓ)

/-- The array after the run is the reference's composed value of the argument arrays. -/
theorem result_eq (c : Dev nD)
    (hu : ∀ (b : Fin 2) (t : Fin 8192) (q : Fin 2048), ∃ a : ℝ, argU m c (ix3 b t ⟨3072 + q.val, by omega⟩) = a)
    (hb : ∀ (H : Fin 8) (n : Fin 320), ∃ a : ℝ, argB m c (ix2 H n) = a) :
    (dats m 0 c).arrAt 6 cfg0.N = Cert.ChunkRefIdeal.Read.val_main_v57 (F := Ideal) (argU m c) (argB m c) := by
  refine (dats m 0 c).arrAt_eq_of_covers 6 _ (by decide +kernel) fun t hf y => ?_
  blk_simp
  rw [after0_6]
  obtain ⟨j, r, h, d, rfl⟩ : ∃ (j : Fin 2) (r : Fin 256) (h : Fin 4) (d : Fin 128), y = ix3 0 (query j r) (col h d) := by
    have h1 : (y 1).val < 512 := (y 1).isLt
    have h2 : (y 2).val < 512 := (y 2).isLt
    refine ⟨⟨(y 1).val / 256, by omega⟩, ⟨(y 1).val % 256, by omega⟩, ⟨(y 2).val / 128, by omega⟩, ⟨(y 2).val % 128, by omega⟩, ?_⟩
    funext a
    fin_cases a
    · exact Subsingleton.elim (α := Fin 1) _ _
    · exact Fin.ext (by show (y 1).val = 256 * ((y 1).val / 256) + (y 1).val % 256; omega)
    · exact Fin.ext (by show (y 2).val = 128 * ((y 2).val / 128) + (y 2).val % 128; omega)
  refine (congrFun (block m c t) _).trans ?_
  rw [outBlock_eq, window_mean _ _ hu hb]
  refine congrArg _ ?_
  blk_ext [idx t]
  all_goals (simp only [seq, nth, head, absquery, query, col]; omega)

/-- The kernel's result over the extended reals is the reference's, on equal arguments with real queries, keys and
    biases. -/
theorem algebraic_Chunk [Cert.Pre_finite_scores.Facts] : Cert.algebraic_ChunkIdeal_ChunkRefIdeal_pre_finite_scores := by
  intro m g m' g' hpre hagree
  refine ⟨fun c => (dats m 0 c).arrAt 6 cfg0.N, Cert.ChunkIdeal.Value.run_blocks m g, ?_⟩
  refine (θ_run _ _ _).mono (fun r h c => ⟨?_, (h c).2⟩) (Cert.ChunkRefIdeal.Value.run m' g')
  refine (h c).1.trans ?_
  have hreal := Cert.ChunkPre.both _ _ (hpre c)
  refine (Cert.ChunkRefIdeal.Read.val_main_v57_eq _ _).trans ?_
  rw [(hagree c).1, (hagree c).2]
  exact (result_eq m c hreal.1 hreal.2).symm

end Cert.ChunkValue

end
-- ==== Proof.lean ====
/-
  The certificate: every run of the programs below leaves their arguments unchanged and every semaphore at zero;
  reading the named mask constant as −∞ is the only difference between the programs and their idealised forms; and
  over the extended reals the kernels compute their plain references.
-/
module

public import proofs.«01_k».proof.Defs
public import proofs.«01_k».proof.Proof.Gen.Mlp.Frame
public import proofs.«01_k».proof.Proof.MlpEq
public import proofs.«01_k».proof.Proof.FoxFrame
public import proofs.«01_k».proof.Proof.FoxIdealFrame
public import proofs.«01_k».proof.Proof.Gen.FoxRefIdeal.Read
public import proofs.«01_k».proof.Proof.Gen.FoxRefIdeal.Run
public import proofs.«01_k».proof.Proof.Gen.Inproj.Frame
public import proofs.«01_k».proof.Proof.InprojEq
public import proofs.«01_k».proof.Proof.Gen.InprojOdd.Frame
public import proofs.«01_k».proof.Proof.InprojOddEq
public import proofs.«01_k».proof.Proof.Gen.Outproj.Frame
public import proofs.«01_k».proof.Proof.OutprojEq
public import proofs.«01_k».proof.Proof.Gen.Chunk.Frame
public import proofs.«01_k».proof.Proof.ChunkEq

@[expose] public section

noncomputable section

namespace Cert.Proof

open Idealize.ShloMosaic Idealize.SL.Sem

/-- The reference of the feed-forward half runs and leaves its arguments and semaphores as they were. -/
theorem frame_MlpRef : Cert.quiescent_MlpRefIdeal := fun m ρ _ =>
  (θ_run _ _ _).mono (fun r h => ⟨fun c => (h c).2, sem_eq_zero_of_no_sems (by decide) r.2⟩)
    (Cert.MlpRefIdeal.Value.run m ρ)

/-- The reference of the input projection of the first layer runs and leaves its arguments and semaphores as they were. -/
theorem frame_InprojRef : Cert.quiescent_InprojRefIdeal := fun m ρ _ =>
  (θ_run _ _ _).mono (fun r h => ⟨fun c => (h c).2, sem_eq_zero_of_no_sems (by decide) r.2⟩)
    (Cert.InprojRefIdeal.Value.run m ρ)

/-- The reference of the input projection of the second layer runs and leaves its arguments and semaphores as they were. -/
theorem frame_InprojOddRef : Cert.quiescent_InprojOddRefIdeal := fun m ρ _ =>
  (θ_run _ _ _).mono (fun r h => ⟨fun c => (h c).2, sem_eq_zero_of_no_sems (by decide) r.2⟩)
    (Cert.InprojOddRefIdeal.Value.run m ρ)

/-- The reference of the output projection runs and leaves its arguments and semaphores as they were. -/
theorem frame_OutprojRef : Cert.quiescent_OutprojRefIdeal := fun m ρ _ =>
  (θ_run _ _ _).mono (fun r h => ⟨fun c => (h c).2, sem_eq_zero_of_no_sems (by decide) r.2⟩)
    (Cert.OutprojRefIdeal.Value.run m ρ)

/-- The reference of the chunked attention runs and leaves its arguments and semaphores as they were. -/
theorem frame_ChunkRef : Cert.quiescent_ChunkRefIdeal := fun m ρ _ =>
  (θ_run _ _ _).mono (fun r h => ⟨fun c => (h c).2, sem_eq_zero_of_no_sems (by decide) r.2⟩)
    (Cert.ChunkRefIdeal.Value.run m ρ)

/-- The reference of the forgetting attention runs and leaves its arguments and semaphores as they were. -/
theorem frame_FoxRef : Cert.quiescent_FoxRefIdeal := fun m ρ _ =>
  (θ_run _ _ _).mono (fun r h => ⟨fun c => (h c).2, sem_eq_zero_of_no_sems (by decide) r.2⟩)
    (Cert.FoxRefIdeal.Value.run m ρ)

/-- All claims together. -/
theorem claim : Cert.Claim :=
  ⟨Cert.Mlp.Gen.facts, Cert.MlpIdeal.Gen.facts, Cert.MlpRefIdeal.Gen.facts,
   Cert.Inproj.Gen.facts, Cert.InprojIdeal.Gen.facts, Cert.InprojRefIdeal.Gen.facts,
   Cert.InprojOdd.Gen.facts, Cert.InprojOddIdeal.Gen.facts, Cert.InprojOddRefIdeal.Gen.facts,
   Cert.Outproj.Gen.facts, Cert.OutprojIdeal.Gen.facts, Cert.OutprojRefIdeal.Gen.facts,
   Cert.Chunk.Gen.facts, Cert.ChunkIdeal.Gen.facts, Cert.ChunkRefIdeal.Gen.facts,
   Cert.Fox.Gen.facts, Cert.FoxIdeal.Gen.facts, Cert.FoxRefIdeal.Gen.facts,
   Cert.ChunkPre.facts,
   fun m ρ _ => Cert.Mlp.Gen.frame m ρ, fun m ρ _ => Cert.MlpIdeal.Gen.frame m ρ, frame_MlpRef,
   fun m ρ _ => Cert.Inproj.Gen.frame m ρ, fun m ρ _ => Cert.InprojIdeal.Gen.frame m ρ, frame_InprojRef,
   fun m ρ _ => Cert.InprojOdd.Gen.frame m ρ, fun m ρ _ => Cert.InprojOddIdeal.Gen.frame m ρ, frame_InprojOddRef,
   fun m ρ _ => Cert.Outproj.Gen.frame m ρ, fun m ρ _ => Cert.OutprojIdeal.Gen.frame m ρ, frame_OutprojRef,
   fun m ρ _ => Cert.Chunk.Gen.frame m ρ, fun m ρ _ => Cert.ChunkIdeal.Gen.frame m ρ, fun m ρ _ => Cert.ChunkIdeal.Gen.frame m ρ,
   frame_ChunkRef, fun m ρ _ => frame_ChunkRef m ρ trivial,
   fun m ρ _ => Cert.Fox.Hand.frame m ρ, fun m ρ _ => Cert.FoxIdeal.Hand.frame m ρ, frame_FoxRef,
   trivial, Cert.MlpValue.algebraic_Mlp,
   trivial, Cert.InprojValue.algebraic_Inproj,
   trivial, Cert.InprojOddValue.algebraic_InprojOdd,
   trivial, Cert.OutprojValue.algebraic_Outproj,
   IdealRules.named_const.statement Cert.ChunkIdeal.κ "mask" .f32 0xF149F2CA#32 ⊥ rfl,
   @Cert.ChunkValue.algebraic_Chunk Cert.ChunkPre.facts,
   IdealRules.named_const.statement Cert.FoxIdeal.κ "mask" .f32 0xF149F2CA#32 ⊥ rfl⟩

end Cert.Proof

end
